-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.Statement Cert.KernelIdeal.S1024x512 Cert.KernelIdeal.S512x512

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_0) = v0 c
          ∧ r.2.mem ((c.tc : Thread Cert.ReferenceIdeal.nD Cert.ReferenceIdeal.τ).loc Cert.ReferenceIdeal.main_v7_1) = v1 c
          ∧ r.2.mem ((c.tc : Thread Cert.ReferenceIdeal.nD Cert.ReferenceIdeal.τ).loc Cert.ReferenceIdeal.main_v7_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x4096x512 : Shape := ⟨3, ![2, 4096, 512]⟩
abbrev S1536x4096 : Shape := ⟨2, ![1536, 4096]⟩
abbrev S4096 : Shape := ⟨1, ![4096]⟩
abbrev S_ : Shape := ⟨0, ![]⟩

class Facts : Prop where
  bitsLt_bf16_f32 : FTy.bits .bf16 < FTy.bits .f32
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel

variable [Facts]

def fn {F : FTy → Type} [FloatOps F] (main_arg0 : FVec F S2x4096x512 .bf16) (main_arg1 : FVec F S1536x4096 .fp8e4m3) (main_arg2 : FVec F S4096 .f32) (main_arg3 : FVec F S4096 .f32) : IVec S_ 1 :=
  let main_v0 : FVec F S2x4096x512 .f32 := (extf .f32 · bitsLt_bf16_f32) main_arg0
  let main_v1 : FVec F S2x4096x512 .f32 := Host.absf main_v0
  let main_cst : FVec F S_ .f32 := constant S_ .f32 0x7F7F0000#32
  let main_v2 : FVec F S2x4096x512 .f32 := broadcastInDim S2x4096x512 ![] bcast_S_S2x4096x512 main_cst
  let main_v3 : IVec S2x4096x512 1 := cmpf .ole main_v1 main_v2
  let main_c : IVec S_ 1 := constantI S_ 1 1#1
  let main_v4 : IVec S_ 1 := (fun x v => Host.reduce IntOp.andi x v reducesTo_S2x4096x512_S_d0_1_2 h_S_) main_v3 main_c
  main_v4
-- ==== Kernel.lean ====
abbrev S2x4096x512 : Shape := ⟨3, ![2, 4096, 512]⟩
abbrev S1536x4096 : Shape := ⟨2, ![1536, 4096]⟩
abbrev S4096 : Shape := ⟨1, ![4096]⟩
abbrev S8192x512 : Shape := ⟨2, ![8192, 512]⟩
abbrev S1x4096 : Shape := ⟨2, ![1, 4096]⟩
abbrev S4096x4096 : Shape := ⟨2, ![4096, 4096]⟩
abbrev S4096x1536 : Shape := ⟨2, ![4096, 1536]⟩
abbrev S8x1x512 : Shape := ⟨3, ![8, 1, 512]⟩
abbrev S1024x512 : Shape := ⟨2, ![1024, 512]⟩
abbrev S512x4096 : Shape := ⟨2, ![512, 4096]⟩
abbrev S512x1536 : Shape := ⟨2, ![512, 1536]⟩
abbrev S1x1x512 : Shape := ⟨3, ![1, 1, 512]⟩
abbrev S8x512 : Shape := ⟨2, ![8, 512]⟩
abbrev S512x512 : Shape := ⟨2, ![512, 512]⟩
abbrev S1x512 : Shape := ⟨2, ![1, 512]⟩
abbrev S511x512 : Shape := ⟨2, ![511, 512]⟩
abbrev S512 : Shape := ⟨1, ![512]⟩
abbrev S512x1 : Shape := ⟨2, ![512, 1]⟩
abbrev S512x256 : Shape := ⟨2, ![512, 256]⟩
abbrev S512x128 : Shape := ⟨2, ![512, 128]⟩
abbrev S128x128 : Shape := ⟨2, ![128, 128]⟩
abbrev S1x128 : Shape := ⟨2, ![1, 128]⟩
abbrev S1x1x128 : Shape := ⟨3, ![1, 1, 128]⟩
abbrev S1536x512 : Shape := ⟨2, ![1536, 512]⟩

abbrev nBuf : Space → Nat
  | .hbm => 10
  | .vmem => 12
  | .smem => 0
  | _ => 0

abbrev bufTy : (tb : Table) → Fin (tcTables nBuf tb) → BufTy
  | .hbm, ⟨0, _⟩ => ⟨S2x4096x512, .bf16⟩
  | .hbm, ⟨1, _⟩ => ⟨S1536x4096, .fp8e4m3⟩
  | .hbm, ⟨2, _⟩ => ⟨S4096, .f32⟩
  | .hbm, ⟨3, _⟩ => ⟨S4096, .f32⟩
  | .hbm, ⟨4, _⟩ => ⟨S8192x512, .bf16⟩
  | .hbm, ⟨5, _⟩ => ⟨S1x4096, .f32⟩
  | .hbm, ⟨6, _⟩ => ⟨S1x4096, .f32⟩
  | .hbm, ⟨7, _⟩ => ⟨S4096x4096, .bf16⟩
  | .hbm, ⟨8, _⟩ => ⟨S4096x1536, .fp8e4m3⟩
  | .hbm, ⟨9, _⟩ => ⟨S8x1x512, .f32⟩
  | .local _ .vmem, ⟨0, _⟩ => ⟨S1024x512, .bf16⟩
  | .local _ .vmem, ⟨1, _⟩ => ⟨S1024x512, .bf16⟩
  | .local _ .vmem, ⟨2, _⟩ => ⟨S1536x4096, .fp8e4m3⟩
  | .local _ .vmem, ⟨3, _⟩ => ⟨S1x4096, .f32⟩
  | .local _ .vmem, ⟨4, _⟩ => ⟨S1x4096, .f32⟩
  | .local _ .vmem, ⟨5, _⟩ => ⟨S512x4096, .bf16⟩
  | .local _ .vmem, ⟨6, _⟩ => ⟨S512x4096, .bf16⟩
  | .local _ .vmem, ⟨7, _⟩ => ⟨S512x1536, .fp8e4m3⟩
  | .local _ .vmem, ⟨8, _⟩ => ⟨S512x1536, .fp8e4m3⟩
  | .local _ .vmem, ⟨9, _⟩ => ⟨S1x1x512, .f32⟩
  | .local _ .vmem, ⟨10, _⟩ => ⟨S1x1x512, .f32⟩
  | .local _ .vmem, ⟨11, _⟩ => ⟨S8x512, .f32⟩
  | _, _ => ⟨S2x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F]
-- ==== ReferenceIdeal.lean ====
abbrev S2x4096x512 : Shape := ⟨3, ![2, 4096, 512]⟩
abbrev S1536x4096 : Shape := ⟨2, ![1536, 4096]⟩
abbrev S4096 : Shape := ⟨1, ![4096]⟩
abbrev S2x2048x1024 : Shape := ⟨3, ![2, 2048, 1024]⟩
abbrev S2x2047x512 : Shape := ⟨3, ![2, 2047, 512]⟩
abbrev S_ : Shape := ⟨0, ![]⟩
abbrev S2x2048x512 : Shape := ⟨3, ![2, 2048, 512]⟩
abbrev S2x2048x1536 : Shape := ⟨3, ![2, 2048, 1536]⟩
abbrev S4096x1536 : Shape := ⟨2, ![4096, 1536]⟩
abbrev S1x4096 : Shape := ⟨2, ![1, 4096]⟩
abbrev S4096x4096 : Shape := ⟨2, ![4096, 4096]⟩
abbrev S8x1x512 : Shape := ⟨3, ![8, 1, 512]⟩
abbrev S4096x1 : Shape := ⟨2, ![4096, 1]⟩

abbrev nBuf : Space → Nat
  | .hbm => 16
  | .vmem => 7
  | .smem => 0
  | _ => 0

abbrev bufTy : (tb : Table) → Fin (tcTables nBuf tb) → BufTy
  | .hbm, ⟨0, _⟩ => ⟨S2x4096x512, .bf16⟩
  | .hbm, ⟨1, _⟩ => ⟨S1536x4096, .fp8e4m3⟩
  | .hbm, ⟨2, _⟩ => ⟨S4096, .f32⟩
  | .hbm, ⟨3, _⟩ => ⟨S4096, .f32⟩
  | .hbm, ⟨4, _⟩ => ⟨S2x2048x1024, .bf16⟩
  | .hbm, ⟨5, _⟩ => ⟨S2x2047x512, .bf16⟩
  | .hbm, ⟨6, _⟩ => ⟨S_, .i32⟩
  | .hbm, ⟨7, _⟩ => ⟨S_, .bf16⟩
  | .hbm, ⟨8, _⟩ => ⟨S2x2048x512, .bf16⟩
  | .hbm, ⟨9, _⟩ => ⟨S2x2048x1536, .bf16⟩
  | .hbm, ⟨10, _⟩ => ⟨S4096x1536, .bf16⟩
  | .hbm, ⟨11, _⟩ => ⟨S1x4096, .f32⟩
  | .hbm, ⟨12, _⟩ => ⟨S1x4096, .f32⟩
  | .hbm, ⟨13, _⟩ => ⟨S4096x4096, .bf16⟩
  | .hbm, ⟨14, _⟩ => ⟨S4096x1536, .fp8e4m3⟩
  | .hbm, ⟨15, _⟩ => ⟨S8x1x512, .f32⟩
  | .local _ .vmem, ⟨0, _⟩ => ⟨S4096x1536, .bf16⟩
  | .local _ .vmem, ⟨1, _⟩ => ⟨S1536x4096, .fp8e4m3⟩
  | .local _ .vmem, ⟨2, _⟩ => ⟨S1x4096, .f32⟩
  | .local _ .vmem, ⟨3, _⟩ => ⟨S1x4096, .f32⟩
  | .local _ .vmem, ⟨4, _⟩ => ⟨S4096x4096, .bf16⟩
  | .local _ .vmem, ⟨5, _⟩ => ⟨S4096x1536, .fp8e4m3⟩
  | .local _ .vmem, ⟨6, _⟩ => ⟨S8x1x512, .f32⟩
  | _, _ => ⟨S2x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln_2" => some ((Real.log 2 : ℝ) : EReal)
  | _ => none

abbrev grid0 : Pipeline.Grid := .none

abbrev stage0_0 : Fin 1 → Memref sig .tc .vmem S4096x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x1536 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Exponent.lean ====
module

public import Idealize.ShloMosaic.Lib.Pointwise
public import Mathlib.Analysis.SpecialFunctions.Log.Basic
public import Mathlib.Analysis.SpecialFunctions.Pow.Real
public import Mathlib.Algebra.Order.Archimedean.Basic

/-! The power-of-two scale of one row, as the kernel counts it and as the reference computes it, and the
theorem that the two agree. `t` is the row's largest magnitude times 1/448. -/

@[expose] public section

set_option maxRecDepth 16384
noncomputable section
open Idealize.ShloMosaic

namespace Cert.Scale

/-- The f32 word whose exponent field is `k` and whose other fields are zero. -/
abbrev word (k : BitVec 32) : BitVec 32 := IntOp.shli .vector k 23#32

/-- The number that word denotes. -/
abbrev pow (k : BitVec 32) : EReal := Ideal.ofBits .f32 (word k)

/-- The kernel's count: how many of the 256 numbers `pow k` the value `t` is not below. -/
def count (t : EReal) : BitVec 32 :=
  Finset.univ.fold IntOp.addi 0#32 fun k : Fin 256 => if t < pow (BitVec.ofNat 32 k) then 0#32 else 1#32

/-- The kernel's scale, from its count. -/
def kscale (n : BitVec 32) : EReal :=
  Scalar.select (IntOp.cmpi .eq (IntOp.subi n 1#32) 0#32) 1 (pow (IntOp.addi (IntOp.subi n 1#32) 1#32))

/-- The kernel's reciprocal of the scale, from its count. -/
def kinv (n : BitVec 32) : EReal :=
  Scalar.select (IntOp.cmpi .eq (IntOp.subi n 1#32) 0#32) 1 (pow (IntOp.subi 253#32 (IntOp.subi n 1#32)))

/-- The reference's exponent. -/
def rexp (t : EReal) : EReal :=
  if t < Ideal.ofBits .f32 0x00800000#32 then 0
  else Ideal.liftRound Int.floor (Ideal.div (Ideal.log t) ((Real.log 2 : ℝ) : EReal)) + 1

/-- The reference's scale. -/
def rscale (t : EReal) : EReal := Ideal.exp2 (rexp t)

/-- The reference's reciprocal of the scale. -/
def rinv (t : EReal) : EReal := Ideal.exp2 (0 - rexp t)

/-- The three fields of `word k`. -/
theorem fields : ∀ k : Fin 256, ((word (BitVec.ofNat 32 k)).extractLsb' (8 + 23) 1 == 1#1) = false
    ∧ ((word (BitVec.ofNat 32 k)).extractLsb' 23 8).toNat = k.val
    ∧ ((word (BitVec.ofNat 32 k)).extractLsb' 0 23).toNat = 0 := by decide +kernel

/-- The threshold number `k` is 0 at 0, infinity at 255, and otherwise the power of two `2^(k-127)`. -/
theorem pow_eq (k : Fin 256) : pow (BitVec.ofNat 32 k) =
    if k.val = 255 then ⊤ else if k.val = 0 then 0 else (((2 : ℝ) ^ ((k.val : ℤ) - 127) : ℝ) : EReal) := by
  obtain ⟨h1, h2, h3⟩ := fields k
  show Ideal.ieee 8 23 (word (BitVec.ofNat 32 k)) = _
  unfold Ideal.ieee
  simp only [h1, h2, h3]
  by_cases hk : k.val = 255
  · simp [hk]
  · by_cases h0 : k.val = 0
    · simp [h0]
    · have : ((k.val : ℤ) - (2 ^ (8 - 1) - 1) - (23 : ℕ)) = ((k.val : ℤ) - 127) - 23 := by norm_num
      have h255 : ¬ k.val = 2 ^ 8 - 1 := by omega
      simp only [hk, h0, h255, this, if_false, Bool.false_eq_true]
      refine congrArg Real.toEReal ?_
      rw [zpow_sub₀ (by norm_num : (2 : ℝ) ≠ 0) _ 23]
      norm_num
      ring

/-- The words of the thresholds, of the scale and of its reciprocal, for a count of `N`. -/
theorem words : ∀ N : Fin 256,
    (IntOp.cmpi .eq (IntOp.subi (BitVec.ofNat 32 N) 1#32) 0#32 = if N.val = 1 then 1#1 else 0#1)
    ∧ IntOp.addi (IntOp.subi (BitVec.ofNat 32 N) 1#32) 1#32 = BitVec.ofNat 32 N
    ∧ (N.val ≤ 254 → IntOp.subi 253#32 (IntOp.subi (BitVec.ofNat 32 N) 1#32) = BitVec.ofNat 32 (254 - N.val)) := by
  decide +kernel

/-- The sum that counts the thresholds at most a value is the word of their number. -/
theorem count_words : ∀ N : Fin 256,
    (Finset.univ.fold IntOp.addi 0#32 fun k : Fin 256 => if N.val ≤ k.val then 0#32 else 1#32) = BitVec.ofNat 32 N := by
  decide +kernel

/-- A value that is below exactly the thresholds from number `N` on has count `N`. -/
theorem count_eq (t : EReal) (N : Fin 256) (h : ∀ k : Fin 256, t < pow (BitVec.ofNat 32 k) ↔ N.val ≤ k.val) :
    count t = BitVec.ofNat 32 N := by
  rw [← count_words N]
  unfold count
  congr 1
  funext k
  simp only [h k]

/-- The least normal f32 number is `2^(-126)`. -/
theorem least_normal : Ideal.ofBits .f32 0x00800000#32 = (((2 : ℝ) ^ (-126 : ℤ) : ℝ) : EReal) := by
  have h := pow_eq 1
  rw [if_neg (by decide), if_neg (by decide)] at h
  exact h

/-- The kernel's scale and reciprocal are the reference's, for `0 ≤ t < 2^126`. -/
theorem agree (t : EReal) (h0 : 0 ≤ t) (h1 : t < (((2 : ℝ) ^ (126 : ℤ) : ℝ) : EReal)) :
    kscale (count t) = rscale t ∧ kinv (count t) = rinv t := by
  lift t to ℝ using ⟨ne_top_of_lt h1, ne_bot_of_gt (lt_of_lt_of_le EReal.bot_lt_zero h0)⟩ with r
  rw [EReal.coe_lt_coe_iff] at h1
  rw [EReal.coe_nonneg] at h0
  by_cases hs : r < (2 : ℝ) ^ (-126 : ℤ)
  · -- below the least normal number
    have hc : count (r : EReal) = BitVec.ofNat 32 1 := by
      refine count_eq r 1 fun k => ?_
      rw [pow_eq]
      split_ifs with a b
      · simp [a, EReal.coe_lt_top]
      · simp [b, h0]
      · rw [EReal.coe_lt_coe_iff]
        refine iff_of_true (lt_of_lt_of_le hs (zpow_le_zpow_right₀ (by norm_num) (by omega))) ?_
        show 1 ≤ k.val
        omega
    have he : rexp (r : EReal) = 0 := by
      unfold rexp
      rw [least_normal, if_pos (EReal.coe_lt_coe_iff.2 hs)]
    have e1 : Ideal.exp2 0 = 1 := by
      rw [← EReal.coe_zero, Ideal.exp2_coe]; simp
    rw [hc]
    constructor
    · unfold kscale rscale
      rw [he, e1]; simp [Scalar.select, IntOp.cmpi, IntOp.subi]
    · unfold kinv rinv
      rw [he, sub_zero, e1]; simp [Scalar.select, IntOp.cmpi, IntOp.subi]
  · rw [not_lt] at hs
    have hr : 0 < r := lt_of_lt_of_le (by positivity) hs
    obtain ⟨L, hL1, hL2⟩ := exists_mem_Ico_zpow hr (by norm_num : (1 : ℝ) < 2)
    have h12 : (1 : ℝ) < 2 := by norm_num
    have hlt (z : ℤ) : r < (2 : ℝ) ^ z ↔ L < z := by
      constructor
      · intro h
        exact (zpow_lt_zpow_iff_right₀ h12).1 (lt_of_le_of_lt hL1 h)
      · intro h
        exact lt_of_lt_of_le hL2 (zpow_le_zpow_right₀ h12.le (by omega))
    have hlo : -126 ≤ L := by
      have := (hlt (-126)).not.1 (not_lt.2 hs)
      omega
    have hhi : L < 126 := (hlt 126).1 h1
    obtain ⟨n, hn⟩ : ∃ n : ℕ, (n : ℤ) = L + 128 := ⟨(L + 128).toNat, by omega⟩
    have hn2 : 2 ≤ n := by omega
    have hn3 : n ≤ 253 := by omega
    have hc : count (r : EReal) = BitVec.ofNat 32 n := by
      refine count_eq r ⟨n, by omega⟩ fun k => ?_
      show _ ↔ n ≤ k.val
      rw [pow_eq]
      split_ifs with a b
      · exact iff_of_true (EReal.coe_lt_top r) (by omega)
      · refine iff_of_false (not_lt.2 (by exact_mod_cast h0)) (by omega)
      · rw [EReal.coe_lt_coe_iff]
        rw [hlt]
        omega
    have he : rexp (r : EReal) = ((L + 1 : ℤ) : ℝ) := by
      unfold rexp
      have hl2 : Real.log 2 ≠ 0 := (Real.log_pos (by norm_num)).ne'
      have hfl : ⌊Real.log r * (1 / Real.log 2)⌋ = L := by
        have hp : 0 < Real.log 2 := Real.log_pos h12
        have g1 := Real.log_le_log (by positivity) hL1
        have g2 := Real.log_lt_log hr hL2
        rw [Real.log_zpow] at g1 g2
        rw [Int.floor_eq_iff, mul_one_div]
        refine ⟨(le_div_iff₀ hp).2 g1, (div_lt_iff₀ hp).2 ?_⟩
        push_cast at g2
        exact g2
      rw [least_normal, if_neg (not_lt.2 (EReal.coe_le_coe_iff.2 hs)), Ideal.log_coe, if_neg (not_le.2 hr),
        Ideal.div_coe hl2, ← EReal.coe_mul, Ideal.liftRound_coe, hfl, ← EReal.coe_one, ← EReal.coe_add]
      push_cast
      rfl
    have hx (z : ℤ) : Ideal.exp2 (((z : ℤ) : ℝ) : EReal) = (((2 : ℝ) ^ z : ℝ) : EReal) := by
      rw [Ideal.exp2_coe]
      exact congrArg _ (Real.rpow_intCast 2 z)
    obtain ⟨w1, w2, w3⟩ := words ⟨n, by omega⟩
    dsimp only at w1 w2 w3
    rw [hc]
    constructor
    · unfold kscale rscale
      rw [w1, w2, he, hx]
      have := pow_eq ⟨n, by omega⟩
      dsimp only at this
      rw [this, if_neg (by omega : ¬ n = 1), if_neg (by omega : ¬ n = 255), if_neg (by omega : ¬ n = 0), hn]
      unfold Scalar.select
      rw [if_neg (by decide)]
      exact congrArg Real.toEReal (congrArg _ (by ring))
    · unfold kinv rinv
      rw [w1, w3 (by omega), if_neg (by omega), he, zero_sub, ← EReal.coe_neg, ← Int.cast_neg, hx]
      have := pow_eq ⟨254 - n, by omega⟩
      dsimp only at this
      rw [this, if_neg (by omega), if_neg (by omega)]
      unfold Scalar.select
      rw [if_neg (by decide)]
      exact congrArg Real.toEReal (congrArg _ (by omega))

end Cert.Scale
-- ==== Proof.Spec.lean ====
module

public import proofs.«01_k».proof.Proof.Exponent

/-! One row of the convolution, as extended reals: its largest magnitude, its codes, its scale and its outputs.
Both programs are read in these words. -/

@[expose] public section

set_option maxRecDepth 16384
noncomputable section
open Idealize.ShloMosaic

namespace Cert.Spec

/-- The largest magnitude of a window row. -/
def amax (w : Fin 1536 → EReal) : EReal :=
  Finset.univ.fold max (Ideal.ofBits .f32 0xFF800000#32) fun k => max (w k) (-w k)

/-- The largest magnitude times 1/448. -/
def level (w : Fin 1536 → EReal) : EReal := amax w * Ideal.ofBits .f32 0x3B124925#32

/-- One code: the value times the reciprocal scale, clipped to ±448. -/
def code (i x : EReal) : EReal :=
  min (Ideal.ofBits .f32 0x43E00000#32) (max (Ideal.ofBits .f32 0xC3E00000#32) (x * i))

/-- One entry before the gelu: the product of the codes and a weight column, rescaled, plus the bias. -/
def pre (i s : EReal) (w c : Fin 1536 → EReal) (ws b : EReal) : EReal := (∑ k, code i (w k) * c k) * s * ws + b

/-- The gelu as the reference writes it. -/
def gelu (h : EReal) : EReal :=
  (h + h * Ideal.erf (h * Ideal.ofBits .f32 0x3F3504F3#32)) * Ideal.ofBits .f32 0x3F000000#32

/-- The gelu as the kernel writes it. -/
def kgelu (h : EReal) : EReal :=
  h * Ideal.ofBits .f32 0x3F000000#32
    + h * Ideal.ofBits .f32 0x3F000000#32 * Ideal.erf (h * Ideal.ofBits .f32 0x3F3504F3#32)

/-- The f32 word of one half. -/
theorem half : Ideal.ofBits .f32 0x3F000000#32 = ((1 / 2 : ℝ) : EReal) := by
  simp [Ideal.ofBits, Ideal.ieee, -EReal.coe_mul]; norm_num

/-- The f32 word nearest the square root of one half. -/
theorem sqrt_half : Ideal.ofBits .f32 0x3F3504F3#32 = ((11863283 / 16777216 : ℝ) : EReal) := by
  simp [Ideal.ofBits, Ideal.ieee, -EReal.coe_mul]; norm_num

/-- The two spellings of the gelu are equal at every extended real. -/
theorem kgelu_eq (h : EReal) : kgelu h = gelu h := by
  unfold kgelu gelu
  rw [half, sqrt_half]
  induction h using EReal.rec with
  | bot =>
    rw [EReal.bot_mul_coe_of_pos (by norm_num), EReal.bot_mul_coe_of_pos (by norm_num)]
    simp [EReal.bot_mul_coe_of_pos]
  | top =>
    rw [EReal.top_mul_coe_of_pos (by norm_num), EReal.top_mul_coe_of_pos (by norm_num)]
    simp [EReal.top_mul_coe_of_pos]
  | coe r =>
    rw [← EReal.coe_mul, ← EReal.coe_mul, Ideal.erf_coe]
    norm_cast
    ring

/-- The window row at position `r` of the flattened batch: the odd row before it (zero at the start of a sequence),
the even row and the odd row of its pair, end to end. -/
def window (x : (⟨3, ![2, 4096, 512]⟩ : Shape).Idx → EReal) (r : Fin 4096) (k : Fin 1536) : EReal :=
  if h : k.val < 512 then
    (if r.val % 2048 = 0 then 0
     else x (ix3 ⟨r.val / 2048, by omega⟩ ⟨2 * (r.val % 2048) - 1, by omega⟩ ⟨k.val, h⟩))
  else if h' : k.val < 1024 then x (ix3 ⟨r.val / 2048, by omega⟩ ⟨2 * (r.val % 2048), by omega⟩ ⟨k.val - 512, by omega⟩)
  else x (ix3 ⟨r.val / 2048, by omega⟩ ⟨2 * (r.val % 2048) + 1, by omega⟩ ⟨k.val - 1024, by omega⟩)

/-- The largest magnitude over three rows taken together is that of the rows end to end. -/
theorem amax_three (w : Fin 1536 → EReal) (p e o : Fin 512 → EReal)
    (hp : ∀ q : Fin 512, p q = w ⟨q.val, by omega⟩) (he : ∀ q : Fin 512, e q = w ⟨512 + q.val, by omega⟩)
    (ho : ∀ q : Fin 512, o q = w ⟨1024 + q.val, by omega⟩) :
    (Finset.univ.fold max (Ideal.ofBits .f32 0xFF800000#32)
      fun q => max (max (max (e q) (-e q)) (max (o q) (-o q))) (max (p q) (-p q))) = amax w := by
  unfold amax
  apply le_antisymm
  · rw [Finset.fold_max_le]
    refine ⟨Finset.le_fold_max _ |>.2 (.inl le_rfl), fun q _ => ?_⟩
    rw [hp, he, ho]
    have h (k : Fin 1536) : max (w k) (-w k) ≤
        Finset.univ.fold max (Ideal.ofBits .f32 0xFF800000#32) fun k => max (w k) (-w k) :=
      Finset.le_fold_max _ |>.2 (.inr ⟨k, Finset.mem_univ _, le_rfl⟩)
    exact max_le (max_le (h _) (h _)) (h _)
  · rw [Finset.fold_max_le]
    refine ⟨Finset.le_fold_max _ |>.2 (.inl le_rfl), fun k _ => ?_⟩
    by_cases h1 : k.val < 512
    · refine Finset.le_fold_max _ |>.2 (.inr ⟨⟨k.val, h1⟩, Finset.mem_univ _, ?_⟩)
      rw [hp]
      exact le_max_right _ _
    · by_cases h2 : k.val < 1024
      · refine Finset.le_fold_max _ |>.2 (.inr ⟨⟨k.val - 512, by omega⟩, Finset.mem_univ _, ?_⟩)
        rw [he]
        have : (⟨512 + (k.val - 512), by omega⟩ : Fin 1536) = k := Fin.ext (by show 512 + (k.val - 512) = k.val; omega)
        rw [this]
        exact le_max_of_le_left (le_max_left _ _)
      · refine Finset.le_fold_max _ |>.2 (.inr ⟨⟨k.val - 1024, by omega⟩, Finset.mem_univ _, ?_⟩)
        rw [ho]
        have : (⟨1024 + (k.val - 1024), by omega⟩ : Fin 1536) = k := Fin.ext (by show 1024 + (k.val - 1024) = k.val; omega)
        rw [this]
        exact le_max_of_le_left (le_max_right _ _)

/-- The largest finite bf16 is `2^128 - 2^120`. -/
theorem greatest : Ideal.ofBits .f32 0x7F7F0000#32 = (((2 : ℝ) ^ (128 : ℤ) - (2 : ℝ) ^ (120 : ℤ) : ℝ) : EReal) := by
  simp [Ideal.ofBits, Ideal.ieee, -EReal.coe_mul, -EReal.coe_sub]; norm_num

/-- The f32 word nearest 1/448. -/
theorem reciprocal : Ideal.ofBits .f32 0x3B124925#32 = ((9586981 / 4294967296 : ℝ) : EReal) := by
  simp [Ideal.ofBits, Ideal.ieee, -EReal.coe_mul]; norm_num

/-- The f32 word of minus infinity. -/
theorem lowest : Ideal.ofBits .f32 0xFF800000#32 = ⊥ := by
  simp [Ideal.ofBits, Ideal.ieee]

/-- Where every entry is at most the greatest finite bf16 number in magnitude, the level lies in `[0, 2^126)`. -/
theorem level_bounds (w : Fin 1536 → EReal) (h : ∀ k, max (w k) (-w k) ≤ Ideal.ofBits .f32 0x7F7F0000#32) :
    0 ≤ level w ∧ level w < (((2 : ℝ) ^ (126 : ℤ) : ℝ) : EReal) := by
  have h0 : 0 ≤ amax w := by
    refine Finset.le_fold_max _ |>.2 (.inr ⟨0, Finset.mem_univ _, ?_⟩)
    rcases le_total 0 (w 0) with g | g
    · exact le_max_of_le_left g
    · exact le_max_of_le_right (by simpa using EReal.neg_le_neg_iff.2 g)
  have h1 : amax w ≤ Ideal.ofBits .f32 0x7F7F0000#32 := by
    refine Finset.fold_max_le _ |>.2 ⟨by rw [lowest]; exact bot_le, fun k _ => h k⟩
  unfold level
  rw [greatest] at h1
  rw [reciprocal]
  generalize amax w = a at h0 h1
  lift a to ℝ using ⟨ne_top_of_le_ne_top (EReal.coe_ne_top _) h1, ne_bot_of_gt (lt_of_lt_of_le EReal.bot_lt_zero h0)⟩ with r
  rw [EReal.coe_le_coe_iff] at h1
  rw [EReal.coe_nonneg] at h0
  rw [← EReal.coe_mul, EReal.coe_nonneg, EReal.coe_lt_coe_iff]
  refine ⟨by positivity, ?_⟩
  norm_num at h1 ⊢
  linarith

/-- The code at window row `r` and position `k`. -/
def codeAt (x : (⟨3, ![2, 4096, 512]⟩ : Shape).Idx → EReal) (r : Fin 4096) (k : Fin 1536) : EReal :=
  code (Scale.rinv (level (window x r))) (window x r k)

/-- The scale of window row `r`. -/
def scaleAt (x : (⟨3, ![2, 4096, 512]⟩ : Shape).Idx → EReal) (r : Fin 4096) : EReal :=
  Scale.rscale (level (window x r))

/-- The output at window row `r` and column `n`. -/
def outAt (x : (⟨3, ![2, 4096, 512]⟩ : Shape).Idx → EReal) (w : (⟨2, ![1536, 4096]⟩ : Shape).Idx → EReal)
    (ws b : (⟨1, ![4096]⟩ : Shape).Idx → EReal) (r n : Fin 4096) : EReal :=
  gelu (pre (Scale.rinv (level (window x r))) (Scale.rscale (level (window x r))) (window x r)
    (fun k => w (ix2 k n)) (ws (ix1 n)) (b (ix1 n)))

/-- Every entry is at most the largest finite bf16 in magnitude. -/
def Bounded (x : (⟨3, ![2, 4096, 512]⟩ : Shape).Idx → EReal) : Prop :=
  ∀ i, max (x i) (-(x i)) ≤ Ideal.ofBits .f32 0x7F7F0000#32

/-- The window rows of a bounded input are bounded. -/
theorem window_bounded {x : (⟨3, ![2, 4096, 512]⟩ : Shape).Idx → EReal} (h : Bounded x) (r : Fin 4096) (k : Fin 1536) :
    max (window x r k) (-(window x r k)) ≤ Ideal.ofBits .f32 0x7F7F0000#32 := by
  unfold window
  split_ifs
  · rw [greatest, neg_zero, max_self]
    exact EReal.coe_nonneg.mpr (by norm_num)
  · exact h _
  · exact h _
  · exact h _

/-- The kernel's scale and reciprocal are the reference's on a bounded input. -/
theorem agree {x : (⟨3, ![2, 4096, 512]⟩ : Shape).Idx → EReal} (h : Bounded x) (r : Fin 4096) :
    Scale.kscale (Scale.count (level (window x r))) = Scale.rscale (level (window x r))
    ∧ Scale.kinv (Scale.count (level (window x r))) = Scale.rinv (level (window x r)) := by
  obtain ⟨h0, h1⟩ := level_bounds (window x r) (window_bounded h r)
  exact Scale.agree _ h0 h1

end Cert.Spec
-- ==== Proof.KernelBlock.lean ====
module

public import proofs.«01_k».proof.Proof.Spec
public import proofs.«01_k».proof.Proof.Gen.KernelIdeal.Value
public import Idealize.ShloMosaic.Lib.Pipeline.ValueKit
public import Idealize.ShloMosaic.Lib.Pipeline.ReadBack

/-! What one grid point of the kernel leaves, as a function of its block of x and of the carried row. -/

@[expose] public section

set_option maxRecDepth 16384
noncomputable section
open Idealize.ShloMosaic Idealize.ShloMosaic.TcCoe Idealize.SL.Sem
namespace Cert.KernelIdeal.Block
open Cert.KernelIdeal Cert.KernelIdeal.Gen Cert.Spec Cert.Scale

/-- The window row `p` of a block: the previous odd row (the carried row `v` at the block's start), the even row and
the odd row. -/
def row (X : Vec Ideal S1024x512 .bf16) (v : Vec Ideal S1x512 .f32) (p : Fin 512) (k : Fin 1536) : EReal :=
  if h : k.val < 512 then
    (if p.val < 1 then v (ix2 0 ⟨k.val, h⟩) else X (ix2 ⟨2 * (p.val - 1) + 1, by omega⟩ ⟨k.val, h⟩))
  else if h' : k.val < 1024 then X (ix2 ⟨2 * p.val, by omega⟩ ⟨k.val - 512, by omega⟩)
  else X (ix2 ⟨2 * p.val + 1, by omega⟩ ⟨k.val - 1024, by omega⟩)

/-- The absolute value, as a maximum. -/
theorem absf_eq (x : EReal) : FloatOps.absf (F := Ideal) (φ := .f32) x = max x (-x) := rfl

variable (X : Vec Ideal S1024x512 .bf16) (v : Vec Ideal S1x512 .f32) (n : IVec S512x1 32)

/-- The previous odd rows are the first third of the window rows. -/
theorem prev_at (p q : Fin 512) : k0_pay6 (F := Ideal) X v (ix2 p q) = row X v p ⟨q.val, by omega⟩ := by
  pointwise [k0_pay6, k0_pay5, k0_pay3]
  unfold row
  rw [dif_pos q.isLt]
  split_ifs with h h1
  · have : (⟨p.val, h⟩ : Fin 1) = 0 := Subsingleton.elim _ _
    simp only [this]
  · rfl
  · exact absurd rfl h1

/-- The even rows are the second third of the window rows. -/
theorem even_at (p q : Fin 512) : k0_pay4 (F := Ideal) X (ix2 p q) = row X v p ⟨512 + q.val, by omega⟩ := by
  pointwise [k0_pay4, k0_pay3]
  unfold row
  rw [dif_neg (by show ¬ 512 + q.val < 512; omega), dif_pos (by show 512 + q.val < 1024; omega)]
  simp

/-- The odd rows are the last third of the window rows. -/
theorem odd_at (p q : Fin 512) : k0_pay5 (F := Ideal) X (ix2 p q) = row X v p ⟨1024 + q.val, by omega⟩ := by
  pointwise [k0_pay5, k0_pay3]
  unfold row
  rw [dif_neg (by show ¬ 1024 + q.val < 512; omega), dif_neg (by show ¬ 1024 + q.val < 1024; omega)]
  simp

/-- The kernel's count at a row. -/
theorem count_at (p : Fin 512) : k0_pay8 (F := Ideal) X v (ix2 p 0) = count (level (row X v p)) := by
  pointwise [k0_pay8]
  simp only [absf_eq]
  rw [amax_three (row X v p) (fun q => k0_pay6 X v (ix2 p q)) (fun q => k0_pay4 X (ix2 p q))
    (fun q => k0_pay5 X (ix2 p q)) (prev_at X v p) (even_at X v p) (odd_at X v p)]
  rfl

/-- The scale column is the kernel's scale of the count. -/
theorem scale_at (p : Fin 512) : k0_pay11 (F := Ideal) n 1#32 (ix2 p 0) = kscale (n (ix2 p 0)) := by
  pointwise [k0_pay9, k0_pay10, k0_pay11]
  rfl

/-- The reciprocal column is the kernel's reciprocal of the count. -/
theorem inv_at (p : Fin 512) : k0_pay12 (F := Ideal) n 1#32 (ix2 p 0) = kinv (n (ix2 p 0)) := by
  pointwise [k0_pay9, k0_pay10, k0_pay12]
  rfl

/-- The codes of the first third, over any rows and counts. -/
theorem code13 (w : FVec Ideal S512x512 .f32) (p q : Fin 512) :
    k0_pay13 (F := Ideal) w n 1#32 (ix2 p q) = code (kinv (n (ix2 p 0))) (w (ix2 p q)) := by
  rw [← inv_at]
  pointwise [k0_pay13]
  rfl

/-- The codes of the second third, over any rows and counts. -/
theorem code14 (w : FVec Ideal S512x512 .f32) (p q : Fin 512) :
    k0_pay14 (F := Ideal) w n 1#32 (ix2 p q) = code (kinv (n (ix2 p 0))) (w (ix2 p q)) := by
  rw [← inv_at]
  pointwise [k0_pay14]
  rfl

/-- The codes of the last third, over any rows and counts. -/
theorem code15 (w : FVec Ideal S512x512 .f32) (p q : Fin 512) :
    k0_pay15 (F := Ideal) w n 1#32 (ix2 p q) = code (kinv (n (ix2 p 0))) (w (ix2 p q)) := by
  rw [← inv_at]
  pointwise [k0_pay15]
  rfl

/-- The code block of one grid point. -/
def codesOf : Vec Ideal S512x1536 .fp8e4m3 := fun j =>
  code (kinv (count (level (row X v (j 0))))) (row X v (j 0) (j 1))

/-- The code block, at an index. -/
theorem codesOf_at (p : Fin 512) (k : Fin 1536) :
    codesOf X v (ix2 p k) = code (kinv (count (level (row X v p)))) (row X v p k) := rfl

end Cert.KernelIdeal.Block
-- ==== Proof.KernelTile.lean ====
module

public import proofs.«01_k».proof.Proof.KernelBlock

/-! The product tiles of one grid point: each of the eight payloads is the same formula on its own columns. -/

@[expose] public section

set_option maxRecDepth 16384
noncomputable section
open Idealize.ShloMosaic Idealize.ShloMosaic.TcCoe Idealize.SL.Sem
namespace Cert.KernelIdeal.Block
open Cert.KernelIdeal Cert.KernelIdeal.Gen Cert.Spec Cert.Scale

variable (S : FVec Ideal S512x1 .f32) (K : FVec Ideal S512x1536 .fp8e4m3) (W : Vec Ideal S1536x512 .fp8e4m3)
  (ws b : Vec Ideal S1x512 .f32)

/-- One entry of a product tile. -/
def tile (p q : Fin 512) : EReal :=
  kgelu ((∑ k : Fin 1536, K (ix2 p k) * W (ix2 k q)) * S (ix2 p 0) * ws (ix2 0 q) + b (ix2 0 q))

/-- The tile number 0 is the common formula. -/
theorem tile0 (p q : Fin 512) : k0_pay23 (F := Ideal) (k0_pay22 S K W) ws b (ix2 p q) = tile S K W ws b p q := by
  pointwise [k0_pay23, k0_pay22, k0_pay21]
  rfl

/-- The tile number 1 is the common formula. -/
theorem tile1 (p q : Fin 512) : k0_pay24 (F := Ideal) S (k0_pay21 K) W ws b (ix2 p q) = tile S K W ws b p q := by
  pointwise [k0_pay24, k0_pay21]
  rfl

/-- The tile number 2 is the common formula. -/
theorem tile2 (p q : Fin 512) : k0_pay25 (F := Ideal) S (k0_pay21 K) W (constant S512x512 .f32 0#32) ws b (ix2 p q) = tile S K W ws b p q := by
  pointwise [k0_pay25, k0_pay21]
  rfl

/-- The tile number 3 is the common formula. -/
theorem tile3 (p q : Fin 512) : k0_pay26 (F := Ideal) S (k0_pay21 K) W ws b (ix2 p q) = tile S K W ws b p q := by
  pointwise [k0_pay26, k0_pay21]
  rfl

/-- The tile number 4 is the common formula. -/
theorem tile4 (p q : Fin 512) : k0_pay27 (F := Ideal) S (k0_pay21 K) W ws b (ix2 p q) = tile S K W ws b p q := by
  pointwise [k0_pay27, k0_pay21]
  rfl

/-- The tile number 6 is the common formula. -/
theorem tile6 (p q : Fin 512) : k0_pay32 (F := Ideal) S (k0_pay21 K) W ws b (ix2 p q) = tile S K W ws b p q := by
  pointwise [k0_pay32, k0_pay21]
  rfl

/-- The tile number 5 is the common formula. -/
theorem tile5 (p q : Fin 512) : k0_pay31 (F := Ideal) (k0_pay29 S (k0_pay21 K) W ws b) (k0_pay30 S (k0_pay21 K) W ws b) (ix2 p q) = tile S K W ws b p q := by
  pointwise [k0_pay31, k0_pay29, k0_pay30, k0_pay28, k0_pay21]
  rfl

/-- The tile number 7 is the common formula. -/
theorem tile7 (p q : Fin 512) : k0_pay1 (F := Ideal) (k0_pay33 S (k0_pay21 K) W ws b) (ix2 p q) = tile S K W ws b p q := by
  pointwise [k0_pay1, k0_pay33, k0_pay21]
  rfl

end Cert.KernelIdeal.Block
-- ==== Proof.KernelPoint.lean ====
module

public import proofs.«01_k».proof.Proof.KernelTile

/-! The buffers one grid point of the kernel leaves: the stores of the codes, the scales and the product tiles,
read as whole blocks. -/

@[expose] public section

set_option maxRecDepth 16384
noncomputable section
open Idealize.ShloMosaic Idealize.ShloMosaic.TcCoe Idealize.SL.Sem
namespace Cert.KernelIdeal.Block
open Cert.KernelIdeal Cert.KernelIdeal.Gen Cert.Spec Cert.Scale

variable (X : Vec Ideal S1024x512 .bf16) (v : Vec Ideal S1x512 .f32)

/-- The scale column of one grid point. -/
theorem scaleCol_at (p : Fin 512) :
    k0_pay11 (F := Ideal) (k0_pay8 X v) 1#32 (ix2 p 0) = kscale (count (level (row X v p))) := by
  rw [scale_at, count_at]

/-- The three stores of codes, as a list of pieces. -/
def codePieces : List (View.Piece (Elt Ideal) S512x1536 .fp8e4m3) :=
  [⟨Rect.unit ![0, 1024] ![512, 512] inb_S512x1536_S512x512_0_1024, k0_pay15 (k0_pay5 X) (k0_pay8 X v) 1#32⟩,
   ⟨Rect.unit ![0, 512] ![512, 512] inb_S512x1536_S512x512_0_512, k0_pay14 (k0_pay4 X) (k0_pay8 X v) 1#32⟩,
   ⟨Rect.unit ![0, 0] ![512, 512] inb_S512x1536_S512x512_0_0, k0_pay13 (k0_pay6 X v) (k0_pay8 X v) 1#32⟩]

/-- The store of the last third holds the code block there. -/
theorem code15_row (p q : Fin 512) (k : Fin 1536) (h : (k : ℕ) = 1024 + q) :
    k0_pay15 (F := Ideal) (k0_pay5 X) (k0_pay8 X v) 1#32 (ix2 p q) = codesOf X v (ix2 p k) := by
  rw [show k = ⟨1024 + q.val, by omega⟩ from Fin.ext h]
  rw [codesOf_at, code15, count_at, odd_at]

/-- The store of the second third holds the code block there. -/
theorem code14_row (p q : Fin 512) (k : Fin 1536) (h : (k : ℕ) = 512 + q) :
    k0_pay14 (F := Ideal) (k0_pay4 X) (k0_pay8 X v) 1#32 (ix2 p q) = codesOf X v (ix2 p k) := by
  rw [show k = ⟨512 + q.val, by omega⟩ from Fin.ext h]
  rw [codesOf_at, code14, count_at, even_at]

/-- The store of the first third holds the code block there. -/
theorem code13_row (p q : Fin 512) (k : Fin 1536) (h : (k : ℕ) = q) :
    k0_pay13 (F := Ideal) (k0_pay6 X v) (k0_pay8 X v) 1#32 (ix2 p q) = codesOf X v (ix2 p k) := by
  rw [show k = ⟨q.val, by omega⟩ from Fin.ext h]
  rw [codesOf_at, code13, count_at, prev_at]

/-- The three stores together hold the code block, at an index. -/
theorem codes_canon_at (p : Fin 512) (k : Fin 1536) : View.canon (codePieces X v) (ix2 p k) = codesOf X v (ix2 p k) := by
  unfold codePieces
  canon_tiles x h
  all_goals
    obtain ⟨a, q, rfl⟩ : ∃ a q : Fin 512, x = ix2 a q := ⟨x 0, x 1, eq_ix2 x⟩
    simp only [ix2_0, ix2_1] at h0 h1
    obtain rfl : p = a := Fin.ext h0
  · exact code15_row X v p q k h1
  · exact code14_row X v p q k h1
  · exact code13_row X v p q k h1

/-- The three stores together hold the code block. -/
theorem codes_canon : View.canon (codePieces X v) = codesOf X v := by
  funext y
  rw [eq_ix2 y]
  exact codes_canon_at X v _ _

/-- The four stores of the scale row, as a list of pieces. -/
def scalePieces : List (View.Piece (Elt Ideal) S1x1x512 .f32) :=
  [⟨Rect.unit ![0, 0, 384] ![1, 1, 128] inb_S1x1x512_S1x1x128_0_0_384, k0_pay20 (F := Ideal) (k0_pay11 (k0_pay8 X v) 1#32)⟩,
   ⟨Rect.unit ![0, 0, 256] ![1, 1, 128] inb_S1x1x512_S1x1x128_0_0_256, k0_pay19 (F := Ideal) (k0_pay11 (k0_pay8 X v) 1#32)⟩,
   ⟨Rect.unit ![0, 0, 128] ![1, 1, 128] inb_S1x1x512_S1x1x128_0_0_128, k0_pay18 (F := Ideal) (k0_pay11 (k0_pay8 X v) 1#32)⟩,
   ⟨Rect.unit ![0, 0, 0] ![1, 1, 128] inb_S1x1x512_S1x1x128_0_0_0, k0_pay17 (F := Ideal) (k0_pay11 (k0_pay8 X v) 1#32)⟩]

/-- The first store of scales holds rows 0 to 127. -/
theorem scale17 (s : FVec Ideal S512x1 .f32) (q : Fin 128) :
    k0_pay17 (F := Ideal) s (ix3 0 0 q) = s (ix2 ⟨q.val, by omega⟩ 0) := by
  pointwise [k0_pay16, k0_pay17]

/-- The second store of scales holds rows 128 to 255. -/
theorem scale18 (s : FVec Ideal S512x1 .f32) (q : Fin 128) :
    k0_pay18 (F := Ideal) s (ix3 0 0 q) = s (ix2 ⟨128 + q.val, by omega⟩ 0) := by
  pointwise [k0_pay16, k0_pay18]

/-- The third store of scales holds rows 256 to 383. -/
theorem scale19 (s : FVec Ideal S512x1 .f32) (q : Fin 128) :
    k0_pay19 (F := Ideal) s (ix3 0 0 q) = s (ix2 ⟨256 + q.val, by omega⟩ 0) := by
  pointwise [k0_pay16, k0_pay19]

/-- The fourth store of scales holds rows 384 to 511. -/
theorem scale20 (s : FVec Ideal S512x1 .f32) (q : Fin 128) :
    k0_pay20 (F := Ideal) s (ix3 0 0 q) = s (ix2 ⟨384 + q.val, by omega⟩ 0) := by
  pointwise [k0_pay16, k0_pay20]

/-- The scale row of one grid point. -/
theorem scale_canon (p : Fin 512) :
    View.canon (scalePieces X v) (ix3 0 0 p) = kscale (count (level (row X v p))) := by
  unfold scalePieces
  canon_tiles x h
  all_goals
    obtain ⟨a, e, q, rfl⟩ : ∃ (a e : Fin 1) (q : Fin 128), x = ix3 a e q := ⟨x 0, x 1, x 2, eq_ix3 x⟩
    obtain rfl : a = 0 := Subsingleton.elim _ _
    obtain rfl : e = 0 := Subsingleton.elim _ _
    simp only [ix3_2] at h2
  · rw [scale20, scaleCol_at]
    exact congrArg (fun j => kscale (count (level (row X v j)))) (Fin.ext h2.symm)
  · rw [scale19, scaleCol_at]
    exact congrArg (fun j => kscale (count (level (row X v j)))) (Fin.ext h2.symm)
  · rw [scale18, scaleCol_at]
    exact congrArg (fun j => kscale (count (level (row X v j)))) (Fin.ext h2.symm)
  · rw [scale17, scaleCol_at]
    exact congrArg (fun j => kscale (count (level (row X v j)))) (Fin.ext h2.symm)

variable (S : FVec Ideal S512x1 .f32) (K : FVec Ideal S512x1536 .fp8e4m3) (W : Vec Ideal S1536x4096 .fp8e4m3)
  (ws b : Vec Ideal S1x4096 .f32)

/-- The eight stores of product tiles, as a list of pieces. -/
def tilePieces : List (View.Piece (Elt Ideal) S512x4096 .bf16) :=
  [⟨Rect.unit ![0, 3584] ![512, 512] inb_S512x4096_S512x512_0_3584,
     k0_pay1 (k0_pay33 S (k0_pay21 K) (View.ld W (Rect.unit ![0, 3584] ![1536, 512] inb_S1536x4096_S1536x512_0_3584)) (View.ld ws (Rect.unit ![0, 3584] ![1, 512] inb_S1x4096_S1x512_0_3584)) (View.ld b (Rect.unit ![0, 3584] ![1, 512] inb_S1x4096_S1x512_0_3584)))⟩,
   ⟨Rect.unit ![0, 3072] ![512, 512] inb_S512x4096_S512x512_0_3072,
     k0_pay32 S (k0_pay21 K) (View.ld W (Rect.unit ![0, 3072] ![1536, 512] inb_S1536x4096_S1536x512_0_3072)) (View.ld ws (Rect.unit ![0, 3072] ![1, 512] inb_S1x4096_S1x512_0_3072)) (View.ld b (Rect.unit ![0, 3072] ![1, 512] inb_S1x4096_S1x512_0_3072))⟩,
   ⟨Rect.unit ![0, 2560] ![512, 512] inb_S512x4096_S512x512_0_2560,
     k0_pay31 (k0_pay29 S (k0_pay21 K) (View.ld W (Rect.unit ![0, 2560] ![1536, 512] inb_S1536x4096_S1536x512_0_2560)) (View.ld ws (Rect.unit ![0, 2560] ![1, 512] inb_S1x4096_S1x512_0_2560)) (View.ld b (Rect.unit ![0, 2560] ![1, 512] inb_S1x4096_S1x512_0_2560))) (k0_pay30 S (k0_pay21 K) (View.ld W (Rect.unit ![0, 2560] ![1536, 512] inb_S1536x4096_S1536x512_0_2560)) (View.ld ws (Rect.unit ![0, 2560] ![1, 512] inb_S1x4096_S1x512_0_2560)) (View.ld b (Rect.unit ![0, 2560] ![1, 512] inb_S1x4096_S1x512_0_2560)))⟩,
   ⟨Rect.unit ![0, 2048] ![512, 512] inb_S512x4096_S512x512_0_2048,
     k0_pay27 S (k0_pay21 K) (View.ld W (Rect.unit ![0, 2048] ![1536, 512] inb_S1536x4096_S1536x512_0_2048)) (View.ld ws (Rect.unit ![0, 2048] ![1, 512] inb_S1x4096_S1x512_0_2048)) (View.ld b (Rect.unit ![0, 2048] ![1, 512] inb_S1x4096_S1x512_0_2048))⟩,
   ⟨Rect.unit ![0, 1536] ![512, 512] inb_S512x4096_S512x512_0_1536,
     k0_pay26 S (k0_pay21 K) (View.ld W (Rect.unit ![0, 1536] ![1536, 512] inb_S1536x4096_S1536x512_0_1536)) (View.ld ws (Rect.unit ![0, 1536] ![1, 512] inb_S1x4096_S1x512_0_1536)) (View.ld b (Rect.unit ![0, 1536] ![1, 512] inb_S1x4096_S1x512_0_1536))⟩,
   ⟨Rect.unit ![0, 1024] ![512, 512] inb_S512x4096_S512x512_0_1024,
     k0_pay25 S (k0_pay21 K) (View.ld W (Rect.unit ![0, 1024] ![1536, 512] inb_S1536x4096_S1536x512_0_1024)) (constant S512x512 FTy.f32 0#32) (View.ld ws (Rect.unit ![0, 1024] ![1, 512] inb_S1x4096_S1x512_0_1024)) (View.ld b (Rect.unit ![0, 1024] ![1, 512] inb_S1x4096_S1x512_0_1024))⟩,
   ⟨Rect.unit ![0, 512] ![512, 512] inb_S512x4096_S512x512_0_512,
     k0_pay24 S (k0_pay21 K) (View.ld W (Rect.unit ![0, 512] ![1536, 512] inb_S1536x4096_S1536x512_0_512)) (View.ld ws (Rect.unit ![0, 512] ![1, 512] inb_S1x4096_S1x512_0_512)) (View.ld b (Rect.unit ![0, 512] ![1, 512] inb_S1x4096_S1x512_0_512))⟩,
   ⟨Rect.unit ![0, 0] ![512, 512] inb_S512x4096_S512x512_0_0,
     k0_pay23 (k0_pay22 S K (View.ld W (Rect.unit ![0, 0] ![1536, 512] inb_S1536x4096_S1536x512_0_0))) (View.ld ws (Rect.unit ![0, 0] ![1, 512] inb_S1x4096_S1x512_0_0)) (View.ld b (Rect.unit ![0, 0] ![1, 512] inb_S1x4096_S1x512_0_0))⟩]

/-- One entry of the whole product block. -/
def entry (p : Fin 512) (n : Fin 4096) : EReal :=
  kgelu ((∑ k : Fin 1536, K (ix2 p k) * W (ix2 k n)) * S (ix2 p 0) * ws (ix2 0 n) + b (ix2 0 n))

/-- A tile of the columns from `o` on is the block's entries there. -/
theorem tile_ld (o : ℕ) (h0 h1 h2) (p q : Fin 512) (n : Fin 4096) (hn : (n : ℕ) = o + q) :
    tile S K (View.ld W (Rect.unit ![0, o] ![1536, 512] h0)) (View.ld ws (Rect.unit ![0, o] ![1, 512] h1))
      (View.ld b (Rect.unit ![0, o] ![1, 512] h2)) p q = entry S K W ws b p n := by
  have hw : ∀ k, View.ld W (Rect.unit ![0, o] ![1536, 512] h0) (ix2 k q) = W (ix2 k n) := fun k =>
    congrArg W (by blk_ext; all_goals simp [hn])
  have hs : View.ld ws (Rect.unit ![0, o] ![1, 512] h1) (ix2 0 q) = ws (ix2 0 n) := congrArg ws (by blk_ext; all_goals simp [hn])
  have hb : View.ld b (Rect.unit ![0, o] ![1, 512] h2) (ix2 0 q) = b (ix2 0 n) := congrArg b (by blk_ext; all_goals simp [hn])
  unfold tile entry
  rw [hs, hb]
  simp only [hw]

/-- The eight stores of product tiles together hold the product block. -/
theorem tile_canon (p : Fin 512) (n : Fin 4096) :
    View.canon (tilePieces S K W ws b) (ix2 p n) = entry S K W ws b p n := by
  unfold tilePieces
  canon_tiles x h
  all_goals
    obtain ⟨a, q, rfl⟩ : ∃ a q : Fin 512, x = ix2 a q := ⟨x 0, x 1, eq_ix2 x⟩
    simp only [ix2_0, ix2_1] at h0 h1
    obtain rfl : p = a := Fin.ext h0
  · rw [tile7]; exact tile_ld S K W ws b 3584 _ _ _ p q n h1
  · rw [tile6]; exact tile_ld S K W ws b 3072 _ _ _ p q n h1
  · rw [tile5]; exact tile_ld S K W ws b 2560 _ _ _ p q n h1
  · rw [tile4]; exact tile_ld S K W ws b 2048 _ _ _ p q n h1
  · rw [tile3]; exact tile_ld S K W ws b 1536 _ _ _ p q n h1
  · rw [tile2]; exact tile_ld S K W ws b 1024 _ _ _ p q n h1
  · rw [tile1]; exact tile_ld S K W ws b 512 _ _ _ p q n h1
  · rw [tile0]; exact tile_ld S K W ws b 0 _ _ _ p q n (by omega)

/-- The columns of one grid point, out of its own codes. -/
theorem entry_codes (p : Fin 512) (n : Fin 4096) :
    entry (k0_pay11 (F := Ideal) (k0_pay8 X v) 1#32) (codesOf X v) W ws b p n
      = kgelu (pre (kinv (count (level (row X v p)))) (kscale (count (level (row X v p)))) (row X v p)
          (fun k => W (ix2 k n)) (ws (ix2 0 n)) (b (ix2 0 n))) := by
  unfold entry
  rw [scaleCol_at]
  rfl

variable (m : (ℓ : Loc nD τ sig) → Buf (Elt Ideal) ℓ)

/-- The row carried into a grid point: zero at the start of a batch, otherwise the last odd row of the block before. -/
def carry (c : Dev nD) (t : Fin cfg0.N) : Vec Ideal S1x512 .f32 := fun j =>
  if t.val % 4 = 0 then 0
  else (iblk m c 0 ⟨t.val - 1, Nat.lt_of_le_of_lt (Nat.sub_le _ _) t.isLt⟩ : Vec Ideal S1024x512 .bf16) (ix2 ⟨1023, by omega⟩ (j 1))

/-- The carried scratch after a grid point. -/
theorem scratch_out (c : Dev nD) (t : Fin cfg0.N) :
    (outsAt0 m c t.val t.isLt).2.2.2 = k0_pay7 (F := Ideal) (iblk m c 0 t) := by
  by_cases h : t.val % 4 = 0
  · rw [outsAt0_A m c t h]
    frame_out
  · rw [outsAt0_B m c t h]
    frame_out

/-- The last of the eight carried rows is the last odd row of the block. -/
theorem pay7_at (q : Fin 512) : k0_pay7 (F := Ideal) X (ix2 7 q) = X (ix2 ⟨1023, by omega⟩ q) := by
  pointwise [k0_pay7, k0_pay5, k0_pay3]

/-- The fill of the carried scratch is zero. -/
theorem pay2_at (y : S8x512.Idx) : k0_pay2 (F := Ideal) y = 0 := by
  pointwise [k0_pay2]

/-- At the start of a sequence the row loaded from the filled scratch is the carried row. -/
theorem carry_A (c : Dev nD) (t : Fin cfg0.N) (h : t.val % 4 = 0) :
    View.ld (Val := Elt Ideal) (S := S8x512) (e' := .f32) (k0_pay2 (F := Ideal)) (Rect.unit ![7, 0] ![1, 512] inb_S8x512_S1x512_7_0) = carry m c t := by
  funext j
  unfold carry
  rw [if_pos h]
  exact pay2_at _

/-- The load of the last carried row reads the last odd row of the block. -/
theorem ld7_at (a : Fin 1) (q : Fin 512) : View.ld (Val := Elt Ideal) (S := S8x512) (e' := .f32) (k0_pay7 (F := Ideal) X)
      (Rect.unit ![7, 0] ![1, 512] inb_S8x512_S1x512_7_0) (ix2 a q) = X (ix2 ⟨1023, by omega⟩ q) := by
  refine (View.ld_unit_apply_of (Val := Elt Ideal) (S := S8x512) (e := .f32) (k0_pay7 (F := Ideal) X) ![7, 0] ![1, 512]
    inb_S8x512_S1x512_7_0 (ix2 a q) (ix2 7 q) ?_).trans (pay7_at X q)
  intro b
  obtain rfl : a = 0 := Subsingleton.elim _ _
  match b with
  | 0 => rfl
  | 1 => exact (Nat.zero_add _).symm

/-- Elsewhere the row loaded from what the point before left is the carried row. -/
theorem carry_B (c : Dev nD) (t : Fin cfg0.N) (h : ¬ t.val % 4 = 0) :
    View.ld (Val := Elt Ideal) (S := S8x512) (e' := .f32) (k0_pay7 (F := Ideal) (iblk m c 0 ⟨t.val - 1, Nat.lt_of_le_of_lt (Nat.sub_le _ _) t.isLt⟩))
      (Rect.unit ![7, 0] ![1, 512] inb_S8x512_S1x512_7_0) = carry m c t := by
  funext j
  unfold carry
  rw [if_neg h]
  generalize (iblk m c 0 ⟨t.val - 1, Nat.lt_of_le_of_lt (Nat.sub_le _ _) t.isLt⟩ : Vec Ideal S1024x512 .bf16) = Y
  have e : j = ix2 (j 0 : Fin 1) (j 1 : Fin 512) := eq_ix2 j
  exact (congrArg _ e).trans (ld7_at Y _ _)

/-- The scratch after its fill is zero everywhere. -/
theorem fill_canon (y : S8x512.Idx) : View.canon (Val := Elt Ideal) (e := .f32)
    [⟨Rect.unit ![0, 0] ![8, 512] inb_S8x512_S8x512_0_0, k0_pay2 (F := Ideal)⟩] y = (0 : EReal) := by
  canon_tiles x h
  exact pay2_at x

/-- The load of the carried row behind a fill of the scratch reads the fill. -/
theorem fill_read_of (w : View sig .tc .vmem S8x512 .f32) : w.readCov (Val := Elt Ideal)
      [⟨Rect.unit ![0, 0] ![8, 512] inb_S8x512_S8x512_0_0, k0_pay2 (F := Ideal)⟩]
      (Rect.unit ![7, 0] ![1, 512] inb_S8x512_S1x512_7_0).toLoadRect
    = View.ld (Val := Elt Ideal) (S := S8x512) (e' := .f32) (k0_pay2 (F := Ideal))
      (Rect.unit ![7, 0] ![1, 512] inb_S8x512_S1x512_7_0) := by
  rw [View.readCov_eq_canon']
  funext j
  exact (fill_canon _).trans (pay2_at _).symm

/-- The same load, of the scratch itself. -/
theorem fill_read : (View.whole cc0_scratch0).readCov (Val := Elt Ideal)
      [⟨Rect.unit ![0, 0] ![8, 512] inb_S8x512_S8x512_0_0, k0_pay2 (F := Ideal)⟩]
      (Rect.unit ![7, 0] ![1, 512] inb_S8x512_S1x512_7_0).toLoadRect
    = View.ld (Val := Elt Ideal) (S := S8x512) (e' := .f32) (k0_pay2 (F := Ideal))
      (Rect.unit ![7, 0] ![1, 512] inb_S8x512_S1x512_7_0) :=
  fill_read_of (View.whole cc0_scratch0)

/-- The product's read of the stored codes. -/
theorem codes_read (w : View sig .tc .vmem S512x1536 .fp8e4m3) :
    w.readCov (Val := Elt Ideal) (codePieces X v) (Rect.unit ![0, 0] ![512, 1536] inb_S512x1536_S512x1536_0_0).toLoadRect
      = codesOf X v := by
  rw [View.readCov_eq_canon', codes_canon]
  exact View.ld_unit_lit inb_S512x1536_S512x1536_0_0 (codesOf X v) (by decide)

/-- The code buffer after a grid point. -/
theorem codes_out (c : Dev nD) (t : Fin cfg0.N) :
    (outsAt0 m c t.val t.isLt).2.1 = codesOf (iblk m c 0 t) (carry m c t) := by
  funext y
  by_cases h : t.val % 4 = 0
  · rw [outsAt0_A m c t h, ← codes_canon, ← carry_A m c t h]
    frame_out
    rw [fill_read]
    rfl
  · have hs := scratch_out m c ⟨t.val - 1, Nat.lt_of_le_of_lt (Nat.sub_le _ _) t.isLt⟩
    rw [outsAt0_B m c t h, ← codes_canon, ← carry_B m c t h]
    generalize (outsAt0 m c (t.val - 1) (Nat.lt_of_le_of_lt (Nat.sub_le _ _) t.isLt)).2.2.2 = C at hs ⊢
    subst hs
    frame_out
    simp only [read_unread_whole]
    rfl

/-- The scale buffer after a grid point. -/
theorem scale_out (c : Dev nD) (t : Fin cfg0.N) :
    (outsAt0 m c t.val t.isLt).2.2.1 = View.canon (scalePieces (iblk m c 0 t) (carry m c t)) := by
  funext y
  by_cases h : t.val % 4 = 0
  · rw [outsAt0_A m c t h, ← carry_A m c t h]
    frame_out
    rw [fill_read]
    rfl
  · have hs := scratch_out m c ⟨t.val - 1, Nat.lt_of_le_of_lt (Nat.sub_le _ _) t.isLt⟩
    rw [outsAt0_B m c t h, ← carry_B m c t h]
    generalize (outsAt0 m c (t.val - 1) (Nat.lt_of_le_of_lt (Nat.sub_le _ _) t.isLt)).2.2.2 = C at hs ⊢
    subst hs
    frame_out
    simp only [read_unread_whole]
    rfl

/-- The product buffer after a grid point. -/
theorem tile_out (c : Dev nD) (t : Fin cfg0.N) :
    (outsAt0 m c t.val t.isLt).1 = View.canon (tilePieces
      (k0_pay11 (F := Ideal) (k0_pay8 (iblk m c 0 t) (carry m c t)) 1#32) (codesOf (iblk m c 0 t) (carry m c t))
      (iblk m c 1 t) (iblk m c 2 t) (iblk m c 3 t)) := by
  rw [← codes_read _ _ (ms0_5 t).view]
  funext y
  by_cases h : t.val % 4 = 0
  · rw [outsAt0_A m c t h, ← carry_A m c t h]
    frame_out
    rw [fill_read]
    rfl
  · have hs := scratch_out m c ⟨t.val - 1, Nat.lt_of_le_of_lt (Nat.sub_le _ _) t.isLt⟩
    rw [outsAt0_B m c t h, ← carry_B m c t h]
    generalize (outsAt0 m c (t.val - 1) (Nat.lt_of_le_of_lt (Nat.sub_le _ _) t.isLt)).2.2.2 = C at hs ⊢
    subst hs
    frame_out
    simp only [read_unread_whole]
    rfl

end Cert.KernelIdeal.Block
-- ==== Proof.KernelArray.lean ====
module

public import proofs.«01_k».proof.Proof.KernelPoint

/-! The kernel's three result arrays, as functions of its argument arrays. -/

@[expose] public section

set_option maxRecDepth 16384
noncomputable section
open Idealize.ShloMosaic Idealize.ShloMosaic.TcCoe Idealize.SL.Sem
open Idealize.ShloMosaic.Pipeline (Dat)
namespace Cert.KernelIdeal.Block
open Cert.KernelIdeal Cert.KernelIdeal.Gen Cert.Spec Cert.Scale

variable (m : (ℓ : Loc nD τ sig) → Buf (Elt Ideal) ℓ)

/-- The blocks that grid point `t` reads and writes. -/
theorem idx : ∀ t : Fin cfg0.N, t.val < 8 ∧ win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0, 0] :=
  (by decide +kernel : ∀ t : Fin grid0.N, _)

/-- The input x. -/
abbrev xOf (c : Dev nD) : Vec Ideal S2x4096x512 .bf16 := m ((c : Thread nD τ).loc main_arg0)
/-- The weight codes. -/
abbrev wOf (c : Dev nD) : Vec Ideal S1536x4096 .fp8e4m3 := m ((c : Thread nD τ).loc main_arg1)
/-- The weight scales. -/
abbrev wsOf (c : Dev nD) : Vec Ideal S4096 .f32 := m ((c : Thread nD τ).loc main_arg2)
/-- The bias. -/
abbrev bOf (c : Dev nD) : Vec Ideal S4096 .f32 := m ((c : Thread nD τ).loc main_arg3)

/-- The region finds x flattened to rows. -/
theorem V_x (c : Dev nD) : (V m c main_v0 : Vec Ideal S8192x512 .bf16) = shapeCast S8192x512 (xOf m c) shapeCasts_S2x4096x512_S8192x512 := by
  entry_read
  try rfl

/-- The region finds the weight scales as one row. -/
theorem V_ws (c : Dev nD) : (V m c main_v1 : Vec Ideal S1x4096 .f32) = shapeCast S1x4096 (wsOf m c) shapeCasts_S4096_S1x4096 := by
  entry_read
  try rfl

/-- The region finds the bias as one row. -/
theorem V_b (c : Dev nD) : (V m c main_v2 : Vec Ideal S1x4096 .f32) = shapeCast S1x4096 (bOf m c) shapeCasts_S4096_S1x4096 := by
  entry_read
  try rfl

/-- A grid point's block of x, read in the argument array. -/
theorem xblk (c : Dev nD) (t : Fin cfg0.N) (a : Fin 1024) (q : Fin 512) (u : Fin 2) (r : Fin 4096)
    (h : t.val * 1024 + a.val = u.val * 4096 + r.val) :
    (iblk m c 0 t : Vec Ideal S1024x512 .bf16) (ix2 a q) = xOf m c (ix3 u r q) := by
  have e : (iblk m c 0 t : Vec Ideal S1024x512 .bf16) (ix2 a q)
      = (V m c main_v0 : Vec Ideal S8192x512 .bf16) (ix2 ⟨t.val * 1024 + a.val, by have := (idx t).1; omega⟩ q) := by
    blk_point [iblk, idx t]
  rw [e, V_x]
  pointwise []
  blk_ext

/-- Every grid point's block of weight codes is the whole array. -/
theorem wblk (c : Dev nD) (t : Fin cfg0.N) : (iblk m c 1 t : Vec Ideal S1536x4096 .fp8e4m3) = wOf m c := by
  funext j
  blk_point [iblk, V, idx t]

/-- Every grid point's block of weight scales is the whole row. -/
theorem wsblk (c : Dev nD) (t : Fin cfg0.N) (n : Fin 4096) :
    (iblk m c 2 t : Vec Ideal S1x4096 .f32) (ix2 0 n) = wsOf m c (ix1 n) := by
  have e : (iblk m c 2 t : Vec Ideal S1x4096 .f32) (ix2 0 n) = (V m c main_v1 : Vec Ideal S1x4096 .f32) (ix2 0 n) := by
    blk_point [iblk, idx t]
  rw [e, V_ws]
  pointwise []

/-- Every grid point's block of the bias is the whole row. -/
theorem bblk (c : Dev nD) (t : Fin cfg0.N) (n : Fin 4096) :
    (iblk m c 3 t : Vec Ideal S1x4096 .f32) (ix2 0 n) = bOf m c (ix1 n) := by
  have e : (iblk m c 3 t : Vec Ideal S1x4096 .f32) (ix2 0 n) = (V m c main_v2 : Vec Ideal S1x4096 .f32) (ix2 0 n) := by
    blk_point [iblk, idx t]
  rw [e, V_b]
  pointwise []

/-- The flattened row a block's row is. -/
def at_ (t : Fin cfg0.N) (p : Fin 512) : Fin 4096 := ⟨512 * t.val + p.val, by have := (idx t).1; omega⟩

/-- The window row a block computes is the window of the whole input there. -/
theorem row_eq (c : Dev nD) (t : Fin cfg0.N) (p : Fin 512) :
    row (iblk m c 0 t) (carry m c t) p = window (xOf m c) (at_ t p) := by
  have ht := (idx t).1
  funext k
  unfold row window
  have hr : (at_ t p).val = 512 * t.val + p.val := rfl
  by_cases h : k.val < 512
  · rw [dif_pos h, dif_pos h]
    by_cases hp : p.val < 1
    · rw [if_pos hp]
      unfold carry
      by_cases h4 : t.val % 4 = 0
      · rw [if_pos h4, if_pos (by omega)]
      · rw [if_neg h4, if_neg (by omega)]
        exact xblk m c _ _ _ _ _ (by simp only; omega)
    · rw [if_neg hp, if_neg (by omega)]
      exact xblk m c _ _ _ _ _ (by simp only; omega)
  · rw [dif_neg h, dif_neg h]
    by_cases h' : k.val < 1024
    · rw [dif_pos h', dif_pos h']
      exact xblk m c _ _ _ _ _ (by simp only; omega)
    · rw [dif_neg h', dif_neg h']
      exact xblk m c _ _ _ _ _ (by simp only; omega)

/-- The array of outputs after the run holds every output. -/
theorem final_out (c : Dev nD) (h : Bounded (xOf m c)) : (dats m 0 c).arrAt 4 (cfgs 0).N
    = (fun j => outAt (xOf m c) (wOf m c) (wsOf m c) (bOf m c) (j 0) (j 1) : Vec Ideal S4096x4096 .bf16) := by
  refine (dats m 0 c).arrAt_eq_of_covers 4 _ (by decide +kernel) fun t hf y => ?_
  blk_simp
  rw [after0_4]
  have key : ∀ (p : Fin 512) (n : Fin 4096), (outsAt0 m c t.val t.isLt).1 (ix2 p n)
      = outAt (xOf m c) (wOf m c) (wsOf m c) (bOf m c) (at_ t p) n := fun p n => by
    rw [tile_out, tile_canon, entry_codes, row_eq, wblk, wsblk, bblk, kgelu_eq, (agree h _).1, (agree h _).2]
    rfl
  refine (congrArg _ (eq_ix2 (y : S512x4096.Idx))).trans ((key _ _).trans ?_)
  refine congrArg₂ (outAt (xOf m c) (wOf m c) (wsOf m c) (bOf m c)) (Fin.ext ?_) (Fin.ext ?_)
  all_goals blk_simp [idx t]
  unfold at_
  simp only
  omega

/-- The array of codes after the run holds every window row's codes. -/
theorem final_codes (c : Dev nD) (h : Bounded (xOf m c)) : (dats m 0 c).arrAt 5 (cfgs 0).N
    = (fun j => codeAt (xOf m c) (j 0) (j 1) : Vec Ideal S4096x1536 .fp8e4m3) := by
  refine (dats m 0 c).arrAt_eq_of_covers 5 _ (by decide +kernel) fun t hf y => ?_
  blk_simp
  rw [after0_5]
  have key : ∀ (p : Fin 512) (k : Fin 1536), (outsAt0 m c t.val t.isLt).2.1 (ix2 p k)
      = codeAt (xOf m c) (at_ t p) k := fun p k => by
    rw [codes_out, codesOf_at, row_eq, (agree h _).2]
    rfl
  refine (congrArg _ (eq_ix2 (y : S512x1536.Idx))).trans ((key _ _).trans ?_)
  refine congrArg₂ (codeAt (xOf m c)) (Fin.ext ?_) (Fin.ext ?_)
  all_goals blk_simp [idx t]
  unfold at_
  simp only
  omega

/-- The array of scales after the run holds every window row's scale. -/
theorem final_scale (c : Dev nD) (h : Bounded (xOf m c)) : (dats m 0 c).arrAt 6 (cfgs 0).N
    = (fun j => scaleAt (xOf m c) ⟨512 * (j 0).val + (j 2).val, by
        have h0 : (j 0).val < 8 := (j 0).isLt
        have h2 : (j 2).val < 512 := (j 2).isLt
        omega⟩ : Vec Ideal S8x1x512 .f32) := by
  refine (dats m 0 c).arrAt_eq_of_covers 6 _ (by decide +kernel) fun t hf y => ?_
  blk_simp
  rw [after0_6]
  have key : ∀ (a e : Fin 1) (p : Fin 512), (outsAt0 m c t.val t.isLt).2.2.1 (ix3 a e p)
      = scaleAt (xOf m c) (at_ t p) := fun a e p => by
    obtain rfl : a = 0 := Subsingleton.elim _ _
    obtain rfl : e = 0 := Subsingleton.elim _ _
    rw [scale_out, scale_canon, row_eq, (agree h _).1]
    rfl
  refine (congrArg _ (eq_ix3 (y : S1x1x512.Idx))).trans ((key _ _ _).trans ?_)
  refine congrArg (scaleAt (xOf m c)) (Fin.ext ?_)
  have h0 : (y 0 : ℕ) < 1 := (y 0).isLt
  blk_simp [idx t]
  rfl

end Cert.KernelIdeal.Block
-- ==== Proof.ReferenceRow.lean ====
module

public import proofs.«01_k».proof.Proof.Spec
public import proofs.«01_k».proof.Proof.Gen.ReferenceIdeal.Frame
public import Idealize.ShloMosaic.Lib.Pipeline.ValueKit

/-! The reference's quantiser and product, read row by row. The payloads are first split, at any float
instance, into short steps; each step is then read over variables. -/

@[expose] public section

set_option maxRecDepth 16384
noncomputable section
open Idealize.ShloMosaic Idealize.ShloMosaic.TcCoe Idealize.SL.Sem
namespace Cert.ReferenceIdeal.Row
open Cert.ReferenceIdeal Cert.ReferenceIdeal.Gen Cert.Spec Cert.Scale

section Generic
variable {F : FTy → Type} [FloatOps F] [Named F]

/-- The largest magnitude of every row. -/
def largest (Y : FVec F S4096x1536 .f32) : FVec F S4096 .f32 :=
  multiReduction .maximumf [1] S4096 Y 0xFF800000#32 reduces_S4096x1536_S4096 (.inl rfl) rfl

/-- A vector of row maxima, as a column, times 1/448. -/
def times (R : FVec F S4096 .f32) : FVec F S4096x1 .f32 :=
  mulf (shapeCast S4096x1 R shapeCasts_S4096_S4096x1) (broadcast S4096x1 (Scalar.ofBits .f32 0x3B124925#32))

/-- The largest magnitude of every row, times 1/448. -/
def levels (Y : FVec F S4096x1536 .f32) : FVec F S4096x1 .f32 := times (largest (absf Y))

/-- The exponent of every row's scale. -/
def exponents (V : FVec F S4096x1 .f32) : FVec F S4096x1 .f32 :=
  select (cmpf .olt V (broadcast S4096x1 (Scalar.ofBits .f32 0x00800000#32))) (broadcast S4096x1 (Scalar.ofBits .f32 0x00000000#32))
    (addf (floor (divf (log V) (broadcast S4096x1 (Named.named κ "ln_2" 0x3F317218#32))))
      (broadcast S4096x1 (Scalar.ofBits .f32 0x3F800000#32)))

/-- The codes, from the rows and their exponents. -/
def codes (Y : FVec F S4096x1536 .f32) (E : FVec F S4096x1 .f32) : FVec F S4096x1536 .fp8e4m3 :=
  truncf .fp8e4m3 (minimumf (broadcast S4096x1536 (Scalar.ofBits .f32 0x43E00000#32))
    (maximumf (broadcast S4096x1536 (Scalar.ofBits .f32 0xC3E00000#32))
      (mulf Y (broadcastTo S4096x1536 (exp2 (subf (broadcast S4096x1 (Scalar.ofBits .f32 0x00000000#32)) E))
        broadcasts_S4096x1_S4096x1536)))) bitsLt_fp8e4m3_f32

/-- The product of the codes and the weights, rescaled, plus the bias. -/
def product (K : FVec F S4096x1536 .fp8e4m3) (S : FVec F S4096x1 .f32) (W : Vec F S1536x4096 .fp8e4m3)
    (ws b : Vec F S1x4096 .f32) : FVec F S4096x4096 .f32 :=
  addf (mulf (mulf (matmul dot_S4096x1536_S1536x4096_S4096x4096_1_0_0_1_n_n none K W (constant S4096x4096 .f32 0x00000000#32))
      (broadcastTo S4096x4096 S broadcasts_S4096x1_S4096x4096))
      (broadcastTo S4096x4096 (shapeCast S1x4096 ws shapeCasts_S1x4096_S1x4096) broadcasts_S1x4096_S4096x4096))
    (broadcastTo S4096x4096 (shapeCast S1x4096 b shapeCasts_S1x4096_S1x4096) broadcasts_S1x4096_S4096x4096)

/-- The body's exponents are the steps above. -/
theorem pay4_eq (X : Vec F S4096x1536 .bf16) : k0_pay4 X = exponents (levels (k0_pay3 X)) := rfl
/-- The body's scales are the steps above. -/
theorem pay5_eq (X : Vec F S4096x1536 .bf16) : k0_pay5 X = exp2 (exponents (levels (k0_pay3 X))) := rfl
/-- The body's codes are the steps above. -/
theorem pay6_eq (X : Vec F S4096x1536 .bf16) : k0_pay6 X = codes (k0_pay3 X) (exponents (levels (k0_pay3 X))) := rfl
/-- The body's entries before the gelu are the steps above. -/
theorem pay7_eq (X : Vec F S4096x1536 .bf16) (W : Vec F S1536x4096 .fp8e4m3) (ws b : Vec F S1x4096 .f32) :
    k0_pay7 X W ws b = product (codes (k0_pay3 X) (exponents (levels (k0_pay3 X)))) (exp2 (exponents (levels (k0_pay3 X)))) W ws b := rfl
end Generic

/-- Widening a bf16 row changes nothing over the reals. -/
theorem pay3_at (X : Vec Ideal S4096x1536 .bf16) (r : Fin 4096) (k : Fin 1536) : k0_pay3 X (ix2 r k) = X (ix2 r k) := by
  pointwise [k0_pay3]

/-- The absolute value, as a maximum. -/
theorem absf_eq (x : EReal) : FloatOps.absf (F := Ideal) (φ := .f32) x = max x (-x) := rfl

/-- The row maximum, at a row. -/
theorem largest_at (Y : FVec Ideal S4096x1536 .f32) (r : Fin 4096) :
    largest Y (ix1 r) = Finset.univ.fold max (Ideal.ofBits .f32 0xFF800000#32) fun k : Fin 1536 => Y (ix2 r k) := by
  pointwise [largest]

/-- The product with 1/448, at a row. -/
theorem times_at (R : FVec Ideal S4096 .f32) (r : Fin 4096) :
    times R (ix2 r 0) = R (ix1 r) * Ideal.ofBits .f32 0x3B124925#32 := by
  pointwise [times]

/-- The absolute value, at an index. -/
theorem abs_at (Y : FVec Ideal S4096x1536 .f32) (r : Fin 4096) (k : Fin 1536) :
    absf Y (ix2 r k) = max (Y (ix2 r k)) (-(Y (ix2 r k))) := rfl

/-- The level of a row is the specification's. -/
theorem levels_at (Y : FVec Ideal S4096x1536 .f32) (r : Fin 4096) : levels Y (ix2 r 0) = level (fun k => Y (ix2 r k)) := by
  unfold levels level amax
  rw [times_at, largest_at]
  simp only [abs_at]

/-- The exponent of a row is the specification's. -/
theorem exponents_at (V : FVec Ideal S4096x1 .f32) (r : Fin 4096) : exponents V (ix2 r 0) = rexp (V (ix2 r 0)) := by
  have hc : (Named.named κ "ln_2" 0x3F317218#32 : Ideal .f32) = ((Real.log 2 : ℝ) : EReal) := by
    rfl
  pointwise [exponents]
  rw [hc]
  rfl

/-- The power of two, at a row. -/
theorem exp2_at (E : FVec Ideal S4096x1 .f32) (r : Fin 4096) : exp2 E (ix2 r 0) = Ideal.exp2 (E (ix2 r 0)) := rfl

/-- A code, at an index. -/
theorem codes_at (Y : FVec Ideal S4096x1536 .f32) (E : FVec Ideal S4096x1 .f32) (r : Fin 4096) (k : Fin 1536) :
    codes Y E (ix2 r k) = code (Ideal.exp2 (0 - E (ix2 r 0))) (Y (ix2 r k)) := by
  pointwise [codes]
  rfl

/-- An entry before the gelu, at an index. -/
theorem product_at (K : FVec Ideal S4096x1536 .fp8e4m3) (S : FVec Ideal S4096x1 .f32) (W : Vec Ideal S1536x4096 .fp8e4m3)
    (ws b : Vec Ideal S1x4096 .f32) (r n : Fin 4096) :
    product K S W ws b (ix2 r n)
      = (∑ k : Fin 1536, K (ix2 r k) * W (ix2 k n)) * S (ix2 r 0) * ws (ix2 0 n) + b (ix2 0 n) := by
  pointwise [product]

/-- The gelu, at an index. -/
theorem gelu_at (h : FVec Ideal S4096x4096 .f32) (r n : Fin 4096) :
    k0_pay1 (F := Ideal) h (Scalar.ofBits .f32 0x3F3504F3#32) (ix2 r n) = gelu (h (ix2 r n)) := by
  pointwise [k0_pay1]
  rfl

/-- The column of scales, laid out as eight rows of 512. -/
theorem pay2_at (s : FVec Ideal S4096x1 .f32) (b : Fin 8) (q : Fin 512) :
    k0_pay2 (F := Ideal) s (ix3 b 0 q) = s (ix2 ⟨512 * b.val + q.val, by omega⟩ 0) := by
  pointwise [k0_pay2]
  blk_ext

end Cert.ReferenceIdeal.Row
-- ==== Proof.ReferenceArray.lean ====
module

public import proofs.«01_k».proof.Proof.ReferenceRow
public import Idealize.ShloMosaic.Lib.Pipeline.Value
public import Idealize.ShloMosaic.Lib.Pipeline.ValueKit

/-! The reference's three result arrays, as functions of its argument arrays. -/

@[expose] public section

set_option maxRecDepth 16384
noncomputable section
open Idealize.ShloMosaic Idealize.ShloMosaic.TcCoe Idealize.SL.Sem
open Idealize.ShloMosaic.Pipeline (Dat)
namespace Cert.ReferenceIdeal.Row
open Cert.ReferenceIdeal Cert.ReferenceIdeal.Gen Cert.Spec Cert.Scale

variable (m : (ℓ : Loc nD τ sig) → Buf (Elt Ideal) ℓ)

/-- The input x. -/
abbrev xOf (c : Dev nD) : Vec Ideal S2x4096x512 .bf16 := m ((c : Thread nD τ).loc main_arg0)
/-- The weight codes. -/
abbrev wOf (c : Dev nD) : Vec Ideal S1536x4096 .fp8e4m3 := m ((c : Thread nD τ).loc main_arg1)
/-- The weight scales. -/
abbrev wsOf (c : Dev nD) : Vec Ideal S4096 .f32 := m ((c : Thread nD τ).loc main_arg2)
/-- The bias. -/
abbrev bOf (c : Dev nD) : Vec Ideal S4096 .f32 := m ((c : Thread nD τ).loc main_arg3)

/-- Every window is its whole array. -/
theorem idx : win0_0.index t0_0 = ![0, 0] ∧ win0_1.index t0_0 = ![0, 0] ∧ win0_2.index t0_0 = ![0, 0] ∧ win0_3.index t0_0 = ![0, 0]
    ∧ win0_4.index t0_0 = ![0, 0] ∧ win0_5.index t0_0 = ![0, 0] ∧ win0_6.index t0_0 = ![0, 0, 0] := by decide +kernel

/-- The window rows, as the host lays them out. -/
abbrev rows (c : Dev nD) : Vec Ideal S4096x1536 .bf16 := V m c main_v4

/-- The host's layout of the window rows, composed: the odd rows moved down by one under a zero row, beside the
pairs. -/
def layout (x : Vec Ideal S2x4096x512 .bf16) : Vec Ideal S4096x1536 .bf16 :=
  shapeCast S4096x1536 (concatenate S2x2048x1536 2
    [⟨S2x2048x512, pad S2x2048x512 ![0, 1, 0] ![0, 0, 0] ![0, 0, 0]
        (extractStridedSlice S2x2047x512 ![0, 0, 512] (shapeCast S2x2048x1024 x shapeCasts_S2x4096x512_S2x2048x1024)
          slices_S2x2048x1024_S2x2047x512_0_0_512)
        (sitofp (F := Ideal) .bf16 (constantI S_ 32 0#32)) pads_S2x2047x512_S2x2048x512_000_100_000 h_S_⟩,
     ⟨S2x2048x1024, shapeCast S2x2048x1024 x shapeCasts_S2x4096x512_S2x2048x1024⟩]
    concatenates_S2x2048x512_S2x2048x1024_S2x2048x1536_d2) shapeCasts_S2x2048x1536_S4096x1536

/-- The window rows that the region finds are that layout of x. -/
theorem rows_eq (c : Dev nD) : rows m c = layout (xOf m c) := by
  unfold rows
  entry_read
  simp only [hostOps0, hostOps0_1, hostOps0_2, List.flatten_cons, List.flatten_nil, List.append_nil, List.cons_append, List.nil_append]
  after_results
  rfl

/-- The integer zero is the real zero. -/
theorem zero_word : FloatOps.sitofp (F := Ideal) .bf16 (0#32) = (0 : EReal) := by
  show (((0#32 : BitVec 32).toInt : ℝ) : EReal) = 0
  simp

/-- The first third of a window row at the start of a sequence is zero. -/
theorem window_zero (x : Vec Ideal S2x4096x512 .bf16) (r : Fin 4096) (k : Fin 1536) (h : k.val < 512) (hr : r.val % 2048 = 0) :
    window x r k = 0 := by
  unfold window
  rw [dif_pos h, if_pos hr]

/-- The first third of any other window row is the odd row before its pair. -/
theorem window_prev (x : Vec Ideal S2x4096x512 .bf16) (r : Fin 4096) (k : Fin 1536) (h : k.val < 512) (hr : ¬ r.val % 2048 = 0) :
    window x r k = x (ix3 ⟨r.val / 2048, by omega⟩ ⟨2 * (r.val % 2048) - 1, by omega⟩ ⟨k.val, h⟩) := by
  unfold window
  rw [dif_pos h, if_neg hr]

/-- The second third of a window row is its pair's even row. -/
theorem window_even (x : Vec Ideal S2x4096x512 .bf16) (r : Fin 4096) (k : Fin 1536) (h : ¬ k.val < 512) (h' : k.val < 1024) :
    window x r k = x (ix3 ⟨r.val / 2048, by omega⟩ ⟨2 * (r.val % 2048), by omega⟩ ⟨k.val - 512, by omega⟩) := by
  unfold window
  rw [dif_neg h, dif_pos h']

/-- The last third of a window row is its pair's odd row. -/
theorem window_odd (x : Vec Ideal S2x4096x512 .bf16) (r : Fin 4096) (k : Fin 1536) (h : ¬ k.val < 512) (h' : ¬ k.val < 1024) :
    window x r k = x (ix3 ⟨r.val / 2048, by omega⟩ ⟨2 * (r.val % 2048) + 1, by omega⟩ ⟨k.val - 1024, by omega⟩) := by
  unfold window
  rw [dif_neg h, dif_neg h']

/-- Reads at indices of equal values are equal. -/
theorem read_congr (x : Vec Ideal S2x4096x512 .bf16) {a a' : Fin 2} {b b' : Fin 4096} {q q' : Fin 512}
    (ha : a.val = a'.val) (hb : b.val = b'.val) (hq : q.val = q'.val) : x (ix3 a b q) = x (ix3 a' b' q') := by
  obtain rfl := Fin.ext ha
  obtain rfl := Fin.ext hb
  obtain rfl := Fin.ext hq
  rfl

/-- The layout, at an index, is the window row. -/
theorem layout_at (x : Vec Ideal S2x4096x512 .bf16) (r : Fin 4096) (k : Fin 1536) : layout x (ix2 r k) = window x r k := by
  pointwise [layout]
  by_cases h : k.val < 512
  · by_cases hr : r.val % 2048 = 0
    · refine Eq.trans ?_ (window_zero x r k h hr).symm
      split_ifs
      · exfalso; omega
      · exact zero_word
    · refine Eq.trans ?_ (window_prev x r k h hr).symm
      split_ifs
      · refine read_congr x ?_ ?_ ?_ <;> simp only <;> omega
      · exfalso; omega
  · by_cases h' : k.val < 1024
    · refine Eq.trans ?_ (window_even x r k h h').symm
      split_ifs <;> refine read_congr x ?_ ?_ ?_ <;> simp only <;> omega
    · refine Eq.trans ?_ (window_odd x r k h h').symm
      split_ifs <;> refine read_congr x ?_ ?_ ?_ <;> simp only <;> omega

/-- The window rows that the region finds, at an index. -/
theorem rows_at (c : Dev nD) (r : Fin 4096) (k : Fin 1536) : rows m c (ix2 r k) = window (xOf m c) r k := by
  rw [rows_eq, layout_at]

/-- The weight scales that the region finds, at an index. -/
theorem ws_at (c : Dev nD) (n : Fin 4096) : (V m c main_v5 : Vec Ideal S1x4096 .f32) (ix2 0 n) = wsOf m c (ix1 n) := by
  entry_read
  simp only [hostOps0, hostOps0_1, hostOps0_2, List.flatten_cons, List.flatten_nil, List.append_nil, List.cons_append, List.nil_append]
  after_results
  pointwise []

/-- The bias that the region finds, at an index. -/
theorem b_at (c : Dev nD) (n : Fin 4096) : (V m c main_v6 : Vec Ideal S1x4096 .f32) (ix2 0 n) = bOf m c (ix1 n) := by
  entry_read
  simp only [hostOps0, hostOps0_1, hostOps0_2, List.flatten_cons, List.flatten_nil, List.append_nil, List.cons_append, List.nil_append]
  after_results
  pointwise []

/-- The body reads the whole array of window rows. -/
theorem rowsblk (c : Dev nD) : (iblk m c 0 t0_0 : Vec Ideal S4096x1536 .bf16) = rows m c := by
  funext j
  blk_point [iblk, idx]

/-- The body reads the whole array of weight codes. -/
theorem wblk (c : Dev nD) : (iblk m c 1 t0_0 : Vec Ideal S1536x4096 .fp8e4m3) = wOf m c := by
  funext j
  blk_point [iblk, V, idx]

/-- The body reads the whole row of weight scales. -/
theorem wsblk (c : Dev nD) (n : Fin 4096) : (iblk m c 2 t0_0 : Vec Ideal S1x4096 .f32) (ix2 0 n) = wsOf m c (ix1 n) := by
  rw [← ws_at]
  blk_point [iblk, idx]

/-- The body reads the whole row of the bias. -/
theorem bblk (c : Dev nD) (n : Fin 4096) : (iblk m c 3 t0_0 : Vec Ideal S1x4096 .f32) (ix2 0 n) = bOf m c (ix1 n) := by
  rw [← b_at]
  blk_point [iblk, idx]

/-- The rows that the body widens are the window rows. -/
theorem pay3_rows (c : Dev nD) (r : Fin 4096) : (fun k => k0_pay3 (rows m c) (ix2 r k)) = window (xOf m c) r := by
  funext k
  rw [pay3_at, rows_at]

/-- The exponent of a row's scale. -/
theorem exponent_at (c : Dev nD) (r : Fin 4096) :
    exponents (levels (k0_pay3 (rows m c))) (ix2 r 0) = rexp (level (window (xOf m c) r)) := by
  rw [exponents_at, levels_at, pay3_rows]

/-- A code that the body computes is the window row's code. -/
theorem code_at (c : Dev nD) (r : Fin 4096) (k : Fin 1536) :
    codes (k0_pay3 (rows m c)) (exponents (levels (k0_pay3 (rows m c)))) (ix2 r k) = codeAt (xOf m c) r k := by
  rw [codes_at, exponent_at, pay3_at, rows_at]
  rfl

/-- A scale that the body computes is the window row's scale. -/
theorem scale_at (c : Dev nD) (r : Fin 4096) :
    exp2 (exponents (levels (k0_pay3 (rows m c)))) (ix2 r 0) = scaleAt (xOf m c) r := by
  rw [exp2_at, exponent_at]
  rfl

/-! The run, with its results named. -/

variable (ρ : Dev nD → PrngReg)

/-- Argument 0 ends unchanged. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- Argument 1 ends unchanged. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- Argument 2 ends unchanged. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- Argument 3 ends unchanged. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The run ends with the three result arrays as the pipeline left them and the arguments unchanged. -/
theorem run_blocks : θ_run defs (onTc (τ := τ) (main (F := Ideal))) ⟨m, fun _ => 0, ρ⟩ fun r => ∀ c : Dev nD,
      r.2.mem ((c : Thread nD τ).loc main_v7_0) = (dats m 0 c).arrAt 4 cfg0.N
      ∧ r.2.mem ((c : Thread nD τ).loc main_v7_1) = (dats m 0 c).arrAt 5 cfg0.N
      ∧ r.2.mem ((c : Thread nD τ).loc main_v7_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4, (h c).1 5, (h c).1 6, kept_main_arg0 m r h c, kept_main_arg1 m r h c,
    kept_main_arg2 m r h c, kept_main_arg3 m r h c⟩) (run_main m ρ)

end Cert.ReferenceIdeal.Row
-- ==== Proof.ReferenceFinal.lean ====
module

public import proofs.«01_k».proof.Proof.ReferenceArray

/-! The reference's three result arrays after its run. -/

@[expose] public section

set_option maxRecDepth 16384
noncomputable section
open Idealize.ShloMosaic Idealize.ShloMosaic.TcCoe Idealize.SL.Sem
open Idealize.ShloMosaic.Pipeline (Dat)
namespace Cert.ReferenceIdeal.Row
open Cert.ReferenceIdeal Cert.ReferenceIdeal.Gen Cert.Spec Cert.Scale

variable (m : (ℓ : Loc nD τ sig) → Buf (Elt Ideal) ℓ)

/-- The array of codes after the run. -/
theorem final_codes (c : Dev nD) : (dats m 0 c).arrAt 5 (cfgs 0).N
    = (fun j => codeAt (xOf m c) (j 0) (j 1) : Vec Ideal S4096x1536 .fp8e4m3) := by
  refine (dats m 0 c).arrAt_eq_of_after_last 5 t0_0 (by decide +kernel) _ fun j => ?_
  blk_simp
  rw [after0_5]
  frame_out
  rw [rowsblk, pay6_eq]
  exact (congrArg _ (eq_ix2 (j : S4096x1536.Idx))).trans (code_at m c _ _)

/-- The array of scales after the run. -/
theorem final_scale (c : Dev nD) : (dats m 0 c).arrAt 6 (cfgs 0).N
    = (fun j => scaleAt (xOf m c) ⟨512 * (j 0).val + (j 2).val, by
        have h0 : (j 0).val < 8 := (j 0).isLt
        have h2 : (j 2).val < 512 := (j 2).isLt
        omega⟩ : Vec Ideal S8x1x512 .f32) := by
  refine (dats m 0 c).arrAt_eq_of_after_last 6 t0_0 (by decide +kernel) _ fun j => ?_
  blk_simp
  rw [after0_6]
  frame_out
  rw [rowsblk, pay5_eq]
  have key : ∀ (a : Fin 8) (e : Fin 1) (q : Fin 512), k0_pay2 (exp2 (exponents (levels (k0_pay3 (rows m c))))) (ix3 a e q)
      = scaleAt (xOf m c) ⟨512 * a.val + q.val, by omega⟩ := fun a e q => by
    obtain rfl : e = 0 := Subsingleton.elim _ _
    rw [pay2_at, scale_at]
  exact (congrArg _ (eq_ix3 (j : S8x1x512.Idx))).trans (key _ _ _)

/-- The array of outputs after the run. -/
theorem final_out (c : Dev nD) : (dats m 0 c).arrAt 4 (cfgs 0).N
    = (fun j => outAt (xOf m c) (wOf m c) (wsOf m c) (bOf m c) (j 0) (j 1) : Vec Ideal S4096x4096 .bf16) := by
  refine (dats m 0 c).arrAt_eq_of_after_last 4 t0_0 (by decide +kernel) _ fun j => ?_
  blk_simp
  rw [after0_4]
  frame_out
  have key : ∀ r n : Fin 4096, k0_pay1 (F := Ideal) (k0_pay7 (iblk m c 0 t0_0) (iblk m c 1 t0_0) (iblk m c 2 t0_0) (iblk m c 3 t0_0))
      (Scalar.ofBits .f32 0x3F3504F3#32) (ix2 r n) = outAt (xOf m c) (wOf m c) (wsOf m c) (bOf m c) r n := fun r n => by
    rw [gelu_at, rowsblk, wblk, pay7_eq, product_at, scale_at, wsblk, bblk]
    have h : ∀ k, codes (k0_pay3 (rows m c)) (exponents (levels (k0_pay3 (rows m c)))) (ix2 r k) * wOf m c (ix2 k n)
        = codeAt (xOf m c) r k * wOf m c (ix2 k n) := fun k => congrArg (· * _) (code_at m c r k)
    exact congrArg (fun t => gelu (t * scaleAt (xOf m c) r * wsOf m c (ix1 n) + bOf m c (ix1 n)))
      (Finset.sum_congr rfl fun k _ => h k)
  exact (congrArg _ (eq_ix2 (j : S4096x4096.Idx))).trans (key _ _)

end Cert.ReferenceIdeal.Row
-- ==== Proof.Precondition.lean ====
module

public import proofs.«01_k».proof.Defs
public import proofs.«01_k».proof.Proof.Spec
public import Idealize.ShloMosaic.Lib.ReduceAll

/-! The precondition, read: every entry of x is at most the largest finite bf16 in magnitude. -/

@[expose] public section

set_option maxRecDepth 16384
noncomputable section
open Idealize.ShloMosaic
namespace Cert.Precondition

/-- A bf16 has fewer bits than an f32. -/
theorem bitsLt : FTy.bits .bf16 < FTy.bits .f32 := by decide
/-- A scalar broadcasts to the shape of x. -/
theorem broadcasts : Cert.Pre_finite.S_.BroadcastsInDim Cert.Pre_finite.S2x4096x512
    (![] : Fin 0 → Fin Cert.Pre_finite.S2x4096x512.rank) := by decide
/-- Reducing x over its three axes leaves a scalar. -/
theorem reduces : Cert.Pre_finite.S2x4096x512.ReducesTo [0, 1, 2] Cert.Pre_finite.S_ := by decide
/-- A scalar has an element. -/
theorem numel : 0 < Cert.Pre_finite.S_.numel := by decide

/-- The side conditions the precondition states. -/
instance facts : Cert.Pre_finite.Facts where
  bitsLt_bf16_f32 := bitsLt
  bcast_S_S2x4096x512 := broadcasts
  reducesTo_S2x4096x512_S_d0_1_2 := reduces
  h_S_ := numel

/-- An array of which the precondition's function is true is bounded. -/
theorem bounded (x : Vec Ideal Cert.Pre_finite.S2x4096x512 .bf16) (w : Vec Ideal Cert.Pre_finite.S1536x4096 .fp8e4m3)
    (ws b : Vec Ideal Cert.Pre_finite.S4096 .f32) (h : Cert.Pre_finite.fn (F := Ideal) x w ws b = fun _ => 1#1) :
    Cert.Spec.Bounded x := by
  intro i
  have : Subsingleton Cert.Pre_finite.S_.Idx := ⟨fun a b => funext fun k => k.elim0⟩
  dsimp only [Cert.Pre_finite.fn] at h
  have e := Host.reduce_andi_all _ _ _ _ _ (congrFun h (fun k => k.elim0)) i
  by_contra hn
  have z : BitVec.ofBool (decide (max (x i) (-(x i)) ≤ Ideal.ofBits .f32 0x7F7F0000#32)) = 1#1 := e
  rw [decide_eq_false hn] at z
  exact absurd z (by decide)

end Cert.Precondition
-- ==== Proof.lean ====
/- The kernel's three result arrays are the reference's: both programs are read, entry by entry, as the same extended
   reals (`Cert.Spec.outAt`, `codeAt`, `scaleAt`). The kernel counts its power-of-two scale from an exponent field, the
   reference computes it by a logarithm; `Cert.Scale.agree` joins the two, and needs x bounded. -/
module

public import proofs.«01_k».proof.Defs
public import proofs.«01_k».proof.Proof.Gen.Kernel
public import proofs.«01_k».proof.Proof.Gen.Kernel.Frame
public import proofs.«01_k».proof.Proof.KernelArray
public import proofs.«01_k».proof.Proof.ReferenceFinal
public import proofs.«01_k».proof.Proof.Precondition
public import Idealize.ShloMosaic.Lib.Bf16Pair
public import Idealize.ShloMosaic.Adequacy
public import Idealize.ShloMosaic.Init

@[expose] public section

noncomputable section

namespace Cert.Proof

open Idealize.ShloMosaic Idealize.SL.Sem Cert.Spec

/-- From arguments that agree, x bounded, the two programs' three results are equal. -/
theorem algebraic : Cert.algebraic_KernelIdeal_ReferenceIdeal_pre_finite (hKernelIdeal := Cert.KernelIdeal.Gen.facts)
    (hReferenceIdeal := Cert.ReferenceIdeal.Gen.facts) (hPre_finite := Cert.Precondition.facts) := by
  intro m g m' g' hpre hargs
  have hb : ∀ c, Bounded (Cert.KernelIdeal.Block.xOf m c) := fun c => Cert.Precondition.bounded _ _ _ _ (hpre c)
  refine ⟨fun c => (Cert.KernelIdeal.Gen.dats m 0 c).arrAt 4 (Cert.KernelIdeal.cfgs 0).N,
    fun c => (Cert.KernelIdeal.Gen.dats m 0 c).arrAt 5 (Cert.KernelIdeal.cfgs 0).N,
    fun c => (Cert.KernelIdeal.Gen.dats m 0 c).arrAt 6 (Cert.KernelIdeal.cfgs 0).N, ?_, ?_⟩
  · refine (θ_run (Cert.KernelIdeal.defs (F := Ideal)) _ _).mono (fun r h c => ?_) (Cert.KernelIdeal.Value.run_blocks (F := Ideal) m g)
    exact h c
  · refine (θ_run (Cert.ReferenceIdeal.defs (F := Ideal)) _ _).mono (fun r h c => ?_) (Cert.ReferenceIdeal.Row.run_blocks m' g')
    obtain ⟨h0, h1, h2, ha⟩ := h c
    have hx : Cert.ReferenceIdeal.Row.xOf m' c = Cert.KernelIdeal.Block.xOf m c := (hargs c).1
    have hw : Cert.ReferenceIdeal.Row.wOf m' c = Cert.KernelIdeal.Block.wOf m c := (hargs c).2.1
    have hs : Cert.ReferenceIdeal.Row.wsOf m' c = Cert.KernelIdeal.Block.wsOf m c := (hargs c).2.2.1
    have hbi : Cert.ReferenceIdeal.Row.bOf m' c = Cert.KernelIdeal.Block.bOf m c := (hargs c).2.2.2
    refine ⟨h0.trans ?_, h1.trans ?_, h2.trans ?_, ha⟩
    · refine (Cert.ReferenceIdeal.Row.final_out m' c).trans (Eq.trans ?_ (Cert.KernelIdeal.Block.final_out m c (hb c)).symm)
      rw [hx, hw, hs, hbi]
    · refine (Cert.ReferenceIdeal.Row.final_codes m' c).trans (Eq.trans ?_ (Cert.KernelIdeal.Block.final_codes m c (hb c)).symm)
      rw [hx]
    · refine (Cert.ReferenceIdeal.Row.final_scale m' c).trans (Eq.trans ?_ (Cert.KernelIdeal.Block.final_scale m c (hb c)).symm)
      rw [hx]

/-- Every claim of this certificate. -/
theorem claim : Cert.Claim :=
  ⟨Cert.Kernel.Gen.facts, Cert.KernelIdeal.Gen.facts, Cert.ReferenceIdeal.Gen.facts, Cert.Precondition.facts,
    fun m g _ => Cert.Kernel.Gen.frame m g, fun m g _ => Cert.KernelIdeal.Gen.frame m g,
    fun m g _ => Cert.KernelIdeal.Gen.frame m g, fun m g _ => Cert.ReferenceIdeal.Gen.frame m g,
    fun m g _ => Cert.ReferenceIdeal.Gen.frame m g,
    IdealRules.bf16_pair.statement Cert.KernelIdeal.S1024x512 Cert.KernelIdeal.S512x512, algebraic⟩

end Cert.Proof

end
